-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x20000x85 : Shape := ⟨3, ![8, 20000, 85]⟩
abbrev S4x4 : Shape := ⟨2, ![4, 4]⟩
abbrev S128 : Shape := ⟨1, ![128]⟩
abbrev S8x100x8 : Shape := ⟨3, ![8, 100, 8]⟩
abbrev S8x800 : Shape := ⟨2, ![8, 800]⟩
abbrev S16 : Shape := ⟨1, ![16]⟩
abbrev S16x1 : Shape := ⟨2, ![16, 1]⟩
abbrev S16x16 : Shape := ⟨2, ![16, 16]⟩
abbrev S256 : Shape := ⟨1, ![256]⟩
abbrev S_ : Shape := ⟨0, ![]⟩
abbrev S96 : Shape := ⟨1, ![96]⟩
abbrev S480 : Shape := ⟨1, ![480]⟩
abbrev S1x480 : Shape := ⟨2, ![1, 480]⟩
abbrev S8x480 : Shape := ⟨2, ![8, 480]⟩
abbrev S8x1280 : Shape := ⟨2, ![8, 1280]⟩
abbrev S8x16 : Shape := ⟨2, ![8, 16]⟩
abbrev S8x128x4 : Shape := ⟨3, ![8, 128, 4]⟩
abbrev S8x128 : Shape := ⟨2, ![8, 128]⟩
abbrev S1280 : Shape := ⟨1, ![1280]⟩
abbrev S128x4 : Shape := ⟨2, ![128, 4]⟩
abbrev S1x1280 : Shape := ⟨2, ![1, 1280]⟩
abbrev S1x16 : Shape := ⟨2, ![1, 16]⟩
abbrev S1x128x4 : Shape := ⟨3, ![1, 128, 4]⟩
abbrev S1x128 : Shape := ⟨2, ![1, 128]⟩
abbrev S8x1 : Shape := ⟨2, ![8, 1]⟩
abbrev S8x101x4 : Shape := ⟨3, ![8, 101, 4]⟩
abbrev S8x101 : Shape := ⟨2, ![8, 101]⟩

abbrev nBuf : Table → Nat
  | .hbm => 23
  | .local .scVector .vmem => 6
  | _ => 0

abbrev bufTy : (tb : Table) → Fin (nBuf tb) → BufTy
  | .hbm, ⟨0, _⟩ => ⟨S8x20000x85, .f32⟩
  | .hbm, ⟨1, _⟩ => ⟨S4x4, .f32⟩
  | .hbm, ⟨2, _⟩ => ⟨S128, .f32⟩
  | .hbm, ⟨3, _⟩ => ⟨S8x100x8, .f32⟩
  | .hbm, ⟨4, _⟩ => ⟨S8x800, .f32⟩
  | .hbm, ⟨5, _⟩ => ⟨S16, .f32⟩
  | .hbm, ⟨6, _⟩ => ⟨S16x1, .f32⟩
  | .hbm, ⟨7, _⟩ => ⟨S16x16, .f32⟩
  | .hbm, ⟨8, _⟩ => ⟨S256, .f32⟩
  | .hbm, ⟨9, _⟩ => ⟨S_, .f32⟩
  | .hbm, ⟨10, _⟩ => ⟨S96, .f32⟩
  | .hbm, ⟨11, _⟩ => ⟨S480, .f32⟩
  | .hbm, ⟨12, _⟩ => ⟨S1x480, .f32⟩
  | .hbm, ⟨13, _⟩ => ⟨S8x480, .f32⟩
  | .hbm, ⟨14, _⟩ => ⟨S8x1280, .f32⟩
  | .hbm, ⟨15, _⟩ => ⟨S8x16, .i32⟩
  | .hbm, ⟨16, _⟩ => ⟨S8x128x4, .f32⟩
  | .hbm, ⟨17, _⟩ => ⟨S8x128, .f32⟩
  | .hbm, ⟨18, _⟩ => ⟨S8x128, .i32⟩
  | .hbm, ⟨19, _⟩ => ⟨S8x1, .i32⟩
  | .hbm, ⟨20, _⟩ => ⟨S8x101x4, .f32⟩
  | .hbm, ⟨21, _⟩ => ⟨S8x101, .f32⟩
  | .hbm, ⟨22, _⟩ => ⟨S8x101, .i32⟩
  | .local .scVector .vmem, ⟨0, _⟩ => ⟨S1280, .f32⟩
  | .local .scVector .vmem, ⟨1, _⟩ => ⟨S128, .f32⟩
  | .local .scVector .vmem, ⟨2, _⟩ => ⟨S128x4, .f32⟩
  | .local .scVector .vmem, ⟨3, _⟩ => ⟨S128, .f32⟩
  | .local .scVector .vmem, ⟨4, _⟩ => ⟨S128, .i32⟩
  | .local .scVector .vmem, ⟨5, _⟩ => ⟨S16, .i32⟩
  | _, _ => ⟨S8x20000x85, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v10_scv : Ref sig .scVector := ⟨.hbm, 14, rfl⟩
abbrev main_v11_0_scv : Ref sig .scVector := ⟨.hbm, 15, rfl⟩
abbrev main_v11_1_scv : Ref sig .scVector := ⟨.hbm, 16, rfl⟩
abbrev main_v11_2_scv : Ref sig .scVector := ⟨.hbm, 17, rfl⟩
abbrev main_v11_3_scv : Ref sig .scVector := ⟨.hbm, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg1 : BitVec 32 := BitVec.ofNat 32 (i 1).val
  let c0_i32_0 : BitVec 32 := 0#32
  ![arg1.toNat, 0]

def k0_chk1 (i : grid0.Coords) (v39 : IVec S16 32) : Prop :=
  (∀ (k0_h1 : k0_cond1 i = 1#1), ∀ a x, ((![v39] : Fin 1 → IVec S16 32) a x).toNat < S1280.size a)
theorem k0_idx1_inb : ∀ (i : grid0.Coords) (v39 : IVec S16 32) (k0_hw1 : k0_chk1 i v39), ∀ (k0_h1 : k0_cond1 i = 1#1), ∀ a x, ((![v39] : Fin 1 → IVec S16 32) a x).toNat < S1280.size a := fun i v39 k0_hw1 k0_h1 => k0_hw1 k0_h1

def k0_chk2 (i : grid0.Coords) (v44 : IVec S16 32) : Prop :=
  (∀ (k0_h1 : k0_cond1 i = 1#1), ∀ a x, ((![v44] : Fin 1 → IVec S16 32) a x).toNat < S1280.size a)
theorem k0_idx2_inb : ∀ (i : grid0.Coords) (v44 : IVec S16 32) (k0_hw2 : k0_chk2 i v44), ∀ (k0_h1 : k0_cond1 i = 1#1), ∀ a x, ((![v44] : Fin 1 → IVec S16 32) a x).toNat < S1280.size a := fun i v44 k0_hw2 k0_h1 => k0_hw2 k0_h1

def k0_chk3 (i : grid0.Coords) (v49 : IVec S16 32) : Prop :=
  (∀ (k0_h1 : k0_cond1 i = 1#1), ∀ a x, ((![v49] : Fin 1 → IVec S16 32) a x).toNat < S1280.size a)
theorem k0_idx3_inb : ∀ (i : grid0.Coords) (v49 : IVec S16 32) (k0_hw3 : k0_chk3 i v49), ∀ (k0_h1 : k0_cond1 i = 1#1), ∀ a x, ((![v49] : Fin 1 → IVec S16 32) a x).toNat < S1280.size a := fun i v49 k0_hw3 k0_h1 => k0_hw3 k0_h1

def k0_chk4 (i : grid0.Coords) (v54 : IVec S16 32) : Prop :=
  (∀ (k0_h1 : k0_cond1 i = 1#1), ∀ a x, ((![v54] : Fin 1 → IVec S16 32) a x).toNat < S1280.size a)
theorem k0_idx4_inb : ∀ (i : grid0.Coords) (v54 : IVec S16 32) (k0_hw4 : k0_chk4 i v54), ∀ (k0_h1 : k0_cond1 i = 1#1), ∀ a x, ((![v54] : Fin 1 → IVec S16 32) a x).toNat < S1280.size a := fun i v54 k0_hw4 k0_h1 => k0_hw4 k0_h1

def k0_chk5 (i : grid0.Coords) (v59 : IVec S16 32) : Prop :=
  (∀ (k0_h1 : k0_cond1 i = 1#1), ∀ a x, ((![v59] : Fin 1 → IVec S16 32) a x).toNat < S1280.size a)
theorem k0_idx5_inb : ∀ (i : grid0.Coords) (v59 : IVec S16 32) (k0_hw5 : k0_chk5 i v59), ∀ (k0_h1 : k0_cond1 i = 1#1), ∀ a x, ((![v59] : Fin 1 → IVec S16 32) a x).toNat < S1280.size a := fun i v59 k0_hw5 k0_h1 => k0_hw5 k0_h1

def k0_chk6 (i : grid0.Coords) (v64 : IVec S16 32) : Prop :=
  (∀ (k0_h1 : k0_cond1 i = 1#1), ∀ a x, ((![v64] : Fin 1 → IVec S16 32) a x).toNat < S1280.size a)
theorem k0_idx6_inb : ∀ (i : grid0.Coords) (v64 : IVec S16 32) (k0_hw6 : k0_chk6 i v64), ∀ (k0_h1 : k0_cond1 i = 1#1), ∀ a x, ((![v64] : Fin 1 → IVec S16 32) a x).toNat < S1280.size a := fun i v64 k0_hw6 k0_h1 => k0_hw6 k0_h1

def k0_chk7 (i : grid0.Coords) (v120 : IVec S16 32) : Prop :=
  (∀ (k0_h1 : k0_cond1 i = 1#1), ∀ a x, ((![v120] : Fin 1 → IVec S16 32) a x).toNat < S1280.size a)
theorem k0_idx7_inb : ∀ (i : grid0.Coords) (v120 : IVec S16 32) (k0_hw7 : k0_chk7 i v120), ∀ (k0_h1 : k0_cond1 i = 1#1), ∀ a x, ((![v120] : Fin 1 → IVec S16 32) a x).toNat < S1280.size a := fun i v120 k0_hw7 k0_h1 => k0_hw7 k0_h1

def k0_chk8 (i : grid0.Coords) (v125 : IVec S16 32) : Prop :=
  (∀ (k0_h1 : k0_cond1 i = 1#1), ∀ a x, ((![v125] : Fin 1 → IVec S16 32) a x).toNat < S1280.size a)
theorem k0_idx8_inb : ∀ (i : grid0.Coords) (v125 : IVec S16 32) (k0_hw8 : k0_chk8 i v125), ∀ (k0_h1 : k0_cond1 i = 1#1), ∀ a x, ((![v125] : Fin 1 → IVec S16 32) a x).toNat < S1280.size a := fun i v125 k0_hw8 k0_h1 => k0_hw8 k0_h1

def k0_chk9 (i : grid0.Coords) (v130 : IVec S16 32) : Prop :=
  (∀ (k0_h1 : k0_cond1 i = 1#1), ∀ a x, ((![v130] : Fin 1 → IVec S16 32) a x).toNat < S1280.size a)
theorem k0_idx9_inb : ∀ (i : grid0.Coords) (v130 : IVec S16 32) (k0_hw9 : k0_chk9 i v130), ∀ (k0_h1 : k0_cond1 i = 1#1), ∀ a x, ((![v130] : Fin 1 → IVec S16 32) a x).toNat < S1280.size a := fun i v130 k0_hw9 k0_h1 => k0_hw9 k0_h1

def k0_chk10 (i : grid0.Coords) (v135 : IVec S16 32) : Prop :=
  (∀ (k0_h1 : k0_cond1 i = 1#1), ∀ a x, ((![v135] : Fin 1 → IVec S16 32) a x).toNat < S1280.size a)
theorem k0_idx10_inb : ∀ (i : grid0.Coords) (v135 : IVec S16 32) (k0_hw10 : k0_chk10 i v135), ∀ (k0_h1 : k0_cond1 i = 1#1), ∀ a x, ((![v135] : Fin 1 → IVec S16 32) a x).toNat < S1280.size a := fun i v135 k0_hw10 k0_h1 => k0_hw10 k0_h1

def k0_chk11 (i : grid0.Coords) (v140 : IVec S16 32) : Prop :=
  (∀ (k0_h1 : k0_cond1 i = 1#1), ∀ a x, ((![v140] : Fin 1 → IVec S16 32) a x).toNat < S1280.size a)
theorem k0_idx11_inb : ∀ (i : grid0.Coords) (v140 : IVec S16 32) (k0_hw11 : k0_chk11 i v140), ∀ (k0_h1 : k0_cond1 i = 1#1), ∀ a x, ((![v140] : Fin 1 → IVec S16 32) a x).toNat < S1280.size a := fun i v140 k0_hw11 k0_h1 => k0_hw11 k0_h1

def k0_chk12 (i : grid0.Coords) (v145 : IVec S16 32) : Prop :=
  (∀ (k0_h1 : k0_cond1 i = 1#1), ∀ a x, ((![v145] : Fin 1 → IVec S16 32) a x).toNat < S1280.size a)
theorem k0_idx12_inb : ∀ (i : grid0.Coords) (v145 : IVec S16 32) (k0_hw12 : k0_chk12 i v145), ∀ (k0_h1 : k0_cond1 i = 1#1), ∀ a x, ((![v145] : Fin 1 → IVec S16 32) a x).toNat < S1280.size a := fun i v145 k0_hw12 k0_h1 => k0_hw12 k0_h1

def k0_chk13 (i : grid0.Coords) (v201 : IVec S16 32) : Prop :=
  (∀ (k0_h1 : k0_cond1 i = 1#1), ∀ a x, ((![v201] : Fin 1 → IVec S16 32) a x).toNat < S1280.size a)
theorem k0_idx13_inb : ∀ (i : grid0.Coords) (v201 : IVec S16 32) (k0_hw13 : k0_chk13 i v201), ∀ (k0_h1 : k0_cond1 i = 1#1), ∀ a x, ((![v201] : Fin 1 → IVec S16 32) a x).toNat < S1280.size a := fun i v201 k0_hw13 k0_h1 => k0_hw13 k0_h1

def k0_chk14 (i : grid0.Coords) (v206 : IVec S16 32) : Prop :=
  (∀ (k0_h1 : k0_cond1 i = 1#1), ∀ a x, ((![v206] : Fin 1 → IVec S16 32) a x).toNat < S1280.size a)
theorem k0_idx14_inb : ∀ (i : grid0.Coords) (v206 : IVec S16 32) (k0_hw14 : k0_chk14 i v206), ∀ (k0_h1 : k0_cond1 i = 1#1), ∀ a x, ((![v206] : Fin 1 → IVec S16 32) a x).toNat < S1280.size a := fun i v206 k0_hw14 k0_h1 => k0_hw14 k0_h1

def k0_chk15 (i : grid0.Coords) (v211 : IVec S16 32) : Prop :=
  (∀ (k0_h1 : k0_cond1 i = 1#1), ∀ a x, ((![v211] : Fin 1 → IVec S16 32) a x).toNat < S1280.size a)
theorem k0_idx15_inb : ∀ (i : grid0.Coords) (v211 : IVec S16 32) (k0_hw15 : k0_chk15 i v211), ∀ (k0_h1 : k0_cond1 i = 1#1), ∀ a x, ((![v211] : Fin 1 → IVec S16 32) a x).toNat < S1280.size a := fun i v211 k0_hw15 k0_h1 => k0_hw15 k0_h1

def k0_chk16 (i : grid0.Coords) (v216 : IVec S16 32) : Prop :=
  (∀ (k0_h1 : k0_cond1 i = 1#1), ∀ a x, ((![v216] : Fin 1 → IVec S16 32) a x).toNat < S1280.size a)
theorem k0_idx16_inb : ∀ (i : grid0.Coords) (v216 : IVec S16 32) (k0_hw16 : k0_chk16 i v216), ∀ (k0_h1 : k0_cond1 i = 1#1), ∀ a x, ((![v216] : Fin 1 → IVec S16 32) a x).toNat < S1280.size a := fun i v216 k0_hw16 k0_h1 => k0_hw16 k0_h1

def k0_chk17 (i : grid0.Coords) (v221 : IVec S16 32) : Prop :=
  (∀ (k0_h1 : k0_cond1 i = 1#1), ∀ a x, ((![v221] : Fin 1 → IVec S16 32) a x).toNat < S1280.size a)
theorem k0_idx17_inb : ∀ (i : grid0.Coords) (v221 : IVec S16 32) (k0_hw17 : k0_chk17 i v221), ∀ (k0_h1 : k0_cond1 i = 1#1), ∀ a x, ((![v221] : Fin 1 → IVec S16 32) a x).toNat < S1280.size a := fun i v221 k0_hw17 k0_h1 => k0_hw17 k0_h1

def k0_chk18 (i : grid0.Coords) (v226 : IVec S16 32) : Prop :=
  (∀ (k0_h1 : k0_cond1 i = 1#1), ∀ a x, ((![v226] : Fin 1 → IVec S16 32) a x).toNat < S1280.size a)
theorem k0_idx18_inb : ∀ (i : grid0.Coords) (v226 : IVec S16 32) (k0_hw18 : k0_chk18 i v226), ∀ (k0_h1 : k0_cond1 i = 1#1), ∀ a x, ((![v226] : Fin 1 → IVec S16 32) a x).toNat < S1280.size a := fun i v226 k0_hw18 k0_h1 => k0_hw18 k0_h1

def k0_chk19 (i : grid0.Coords) (v282 : IVec S16 32) : Prop :=
  (∀ (k0_h1 : k0_cond1 i = 1#1), ∀ a x, ((![v282] : Fin 1 → IVec S16 32) a x).toNat < S1280.size a)
theorem k0_idx19_inb : ∀ (i : grid0.Coords) (v282 : IVec S16 32) (k0_hw19 : k0_chk19 i v282), ∀ (k0_h1 : k0_cond1 i = 1#1), ∀ a x, ((![v282] : Fin 1 → IVec S16 32) a x).toNat < S1280.size a := fun i v282 k0_hw19 k0_h1 => k0_hw19 k0_h1

def k0_chk20 (i : grid0.Coords) (v287 : IVec S16 32) : Prop :=
  (∀ (k0_h1 : k0_cond1 i = 1#1), ∀ a x, ((![v287] : Fin 1 → IVec S16 32) a x).toNat < S1280.size a)
theorem k0_idx20_inb : ∀ (i : grid0.Coords) (v287 : IVec S16 32) (k0_hw20 : k0_chk20 i v287), ∀ (k0_h1 : k0_cond1 i = 1#1), ∀ a x, ((![v287] : Fin 1 → IVec S16 32) a x).toNat < S1280.size a := fun i v287 k0_hw20 k0_h1 => k0_hw20 k0_h1

def k0_chk21 (i : grid0.Coords) (v292 : IVec S16 32) : Prop :=
  (∀ (k0_h1 : k0_cond1 i = 1#1), ∀ a x, ((![v292] : Fin 1 → IVec S16 32) a x).toNat < S1280.size a)
theorem k0_idx21_inb : ∀ (i : grid0.Coords) (v292 : IVec S16 32) (k0_hw21 : k0_chk21 i v292), ∀ (k0_h1 : k0_cond1 i = 1#1), ∀ a x, ((![v292] : Fin 1 → IVec S16 32) a x).toNat < S1280.size a := fun i v292 k0_hw21 k0_h1 => k0_hw21 k0_h1

def k0_chk22 (i : grid0.Coords) (v297 : IVec S16 32) : Prop :=
  (∀ (k0_h1 : k0_cond1 i = 1#1), ∀ a x, ((![v297] : Fin 1 → IVec S16 32) a x).toNat < S1280.size a)
theorem k0_idx22_inb : ∀ (i : grid0.Coords) (v297 : IVec S16 32) (k0_hw22 : k0_chk22 i v297), ∀ (k0_h1 : k0_cond1 i = 1#1), ∀ a x, ((![v297] : Fin 1 → IVec S16 32) a x).toNat < S1280.size a := fun i v297 k0_hw22 k0_h1 => k0_hw22 k0_h1

def k0_chk23 (i : grid0.Coords) (v302 : IVec S16 32) : Prop :=
  (∀ (k0_h1 : k0_cond1 i = 1#1), ∀ a x, ((![v302] : Fin 1 → IVec S16 32) a x).toNat < S1280.size a)
theorem k0_idx23_inb : ∀ (i : grid0.Coords) (v302 : IVec S16 32) (k0_hw23 : k0_chk23 i v302), ∀ (k0_h1 : k0_cond1 i = 1#1), ∀ a x, ((![v302] : Fin 1 → IVec S16 32) a x).toNat < S1280.size a := fun i v302 k0_hw23 k0_h1 => k0_hw23 k0_h1

def k0_chk24 (i : grid0.Coords) (v307 : IVec S16 32) : Prop :=
  (∀ (k0_h1 : k0_cond1 i = 1#1), ∀ a x, ((![v307] : Fin 1 → IVec S16 32) a x).toNat < S1280.size a)
theorem k0_idx24_inb : ∀ (i : grid0.Coords) (v307 : IVec S16 32) (k0_hw24 : k0_chk24 i v307), ∀ (k0_h1 : k0_cond1 i = 1#1), ∀ a x, ((![v307] : Fin 1 → IVec S16 32) a x).toNat < S1280.size a := fun i v307 k0_hw24 k0_h1 => k0_hw24 k0_h1

def k0_chk25 (i : grid0.Coords) (v363 : IVec S16 32) : Prop :=
  (∀ (k0_h1 : k0_cond1 i = 1#1), ∀ a x, ((![v363] : Fin 1 → IVec S16 32) a x).toNat < S1280.size a)
theorem k0_idx25_inb : ∀ (i : grid0.Coords) (v363 : IVec S16 32) (k0_hw25 : k0_chk25 i v363), ∀ (k0_h1 : k0_cond1 i = 1#1), ∀ a x, ((![v363] : Fin 1 → IVec S16 32) a x).toNat < S1280.size a := fun i v363 k0_hw25 k0_h1 => k0_hw25 k0_h1

def k0_chk26 (i : grid0.Coords) (v368 : IVec S16 32) : Prop :=
  (∀ (k0_h1 : k0_cond1 i = 1#1), ∀ a x, ((![v368] : Fin 1 → IVec S16 32) a x).toNat < S1280.size a)
theorem k0_idx26_inb : ∀ (i : grid0.Coords) (v368 : IVec S16 32) (k0_hw26 : k0_chk26 i v368), ∀ (k0_h1 : k0_cond1 i = 1#1), ∀ a x, ((![v368] : Fin 1 → IVec S16 32) a x).toNat < S1280.size a := fun i v368 k0_hw26 k0_h1 => k0_hw26 k0_h1

def k0_chk27 (i : grid0.Coords) (v373 : IVec S16 32) : Prop :=
  (∀ (k0_h1 : k0_cond1 i = 1#1), ∀ a x, ((![v373] : Fin 1 → IVec S16 32) a x).toNat < S1280.size a)
theorem k0_idx27_inb : ∀ (i : grid0.Coords) (v373 : IVec S16 32) (k0_hw27 : k0_chk27 i v373), ∀ (k0_h1 : k0_cond1 i = 1#1), ∀ a x, ((![v373] : Fin 1 → IVec S16 32) a x).toNat < S1280.size a := fun i v373 k0_hw27 k0_h1 => k0_hw27 k0_h1

def k0_chk28 (i : grid0.Coords) (v378 : IVec S16 32) : Prop :=
  (∀ (k0_h1 : k0_cond1 i = 1#1), ∀ a x, ((![v378] : Fin 1 → IVec S16 32) a x).toNat < S1280.size a)
theorem k0_idx28_inb : ∀ (i : grid0.Coords) (v378 : IVec S16 32) (k0_hw28 : k0_chk28 i v378), ∀ (k0_h1 : k0_cond1 i = 1#1), ∀ a x, ((![v378] : Fin 1 → IVec S16 32) a x).toNat < S1280.size a := fun i v378 k0_hw28 k0_h1 => k0_hw28 k0_h1

def k0_chk29 (i : grid0.Coords) (v383 : IVec S16 32) : Prop :=
  (∀ (k0_h1 : k0_cond1 i = 1#1), ∀ a x, ((![v383] : Fin 1 → IVec S16 32) a x).toNat < S1280.size a)
theorem k0_idx29_inb : ∀ (i : grid0.Coords) (v383 : IVec S16 32) (k0_hw29 : k0_chk29 i v383), ∀ (k0_h1 : k0_cond1 i = 1#1), ∀ a x, ((![v383] : Fin 1 → IVec S16 32) a x).toNat < S1280.size a := fun i v383 k0_hw29 k0_h1 => k0_hw29 k0_h1

def k0_chk30 (i : grid0.Coords) (v388 : IVec S16 32) : Prop :=
  (∀ (k0_h1 : k0_cond1 i = 1#1), ∀ a x, ((![v388] : Fin 1 → IVec S16 32) a x).toNat < S1280.size a)
theorem k0_idx30_inb : ∀ (i : grid0.Coords) (v388 : IVec S16 32) (k0_hw30 : k0_chk30 i v388), ∀ (k0_h1 : k0_cond1 i = 1#1), ∀ a x, ((![v388] : Fin 1 → IVec S16 32) a x).toNat < S1280.size a := fun i v388 k0_hw30 k0_h1 => k0_hw30 k0_h1

def k0_chk31 (i : grid0.Coords) (v444 : IVec S16 32) : Prop :=
  (∀ (k0_h1 : k0_cond1 i = 1#1), ∀ a x, ((![v444] : Fin 1 → IVec S16 32) a x).toNat < S1280.size a)
theorem k0_idx31_inb : ∀ (i : grid0.Coords) (v444 : IVec S16 32) (k0_hw31 : k0_chk31 i v444), ∀ (k0_h1 : k0_cond1 i = 1#1), ∀ a x, ((![v444] : Fin 1 → IVec S16 32) a x).toNat < S1280.size a := fun i v444 k0_hw31 k0_h1 => k0_hw31 k0_h1

def k0_chk32 (i : grid0.Coords) (v449 : IVec S16 32) : Prop :=
  (∀ (k0_h1 : k0_cond1 i = 1#1), ∀ a x, ((![v449] : Fin 1 → IVec S16 32) a x).toNat < S1280.size a)
theorem k0_idx32_inb : ∀ (i : grid0.Coords) (v449 : IVec S16 32) (k0_hw32 : k0_chk32 i v449), ∀ (k0_h1 : k0_cond1 i = 1#1), ∀ a x, ((![v449] : Fin 1 → IVec S16 32) a x).toNat < S1280.size a := fun i v449 k0_hw32 k0_h1 => k0_hw32 k0_h1

def k0_chk33 (i : grid0.Coords) (v454 : IVec S16 32) : Prop :=
  (∀ (k0_h1 : k0_cond1 i = 1#1), ∀ a x, ((![v454] : Fin 1 → IVec S16 32) a x).toNat < S1280.size a)
theorem k0_idx33_inb : ∀ (i : grid0.Coords) (v454 : IVec S16 32) (k0_hw33 : k0_chk33 i v454), ∀ (k0_h1 : k0_cond1 i = 1#1), ∀ a x, ((![v454] : Fin 1 → IVec S16 32) a x).toNat < S1280.size a := fun i v454 k0_hw33 k0_h1 => k0_hw33 k0_h1

def k0_chk34 (i : grid0.Coords) (v459 : IVec S16 32) : Prop :=
  (∀ (k0_h1 : k0_cond1 i = 1#1), ∀ a x, ((![v459] : Fin 1 → IVec S16 32) a x).toNat < S1280.size a)
theorem k0_idx34_inb : ∀ (i : grid0.Coords) (v459 : IVec S16 32) (k0_hw34 : k0_chk34 i v459), ∀ (k0_h1 : k0_cond1 i = 1#1), ∀ a x, ((![v459] : Fin 1 → IVec S16 32) a x).toNat < S1280.size a := fun i v459 k0_hw34 k0_h1 => k0_hw34 k0_h1

def k0_chk35 (i : grid0.Coords) (v464 : IVec S16 32) : Prop :=
  (∀ (k0_h1 : k0_cond1 i = 1#1), ∀ a x, ((![v464] : Fin 1 → IVec S16 32) a x).toNat < S1280.size a)
theorem k0_idx35_inb : ∀ (i : grid0.Coords) (v464 : IVec S16 32) (k0_hw35 : k0_chk35 i v464), ∀ (k0_h1 : k0_cond1 i = 1#1), ∀ a x, ((![v464] : Fin 1 → IVec S16 32) a x).toNat < S1280.size a := fun i v464 k0_hw35 k0_h1 => k0_hw35 k0_h1

def k0_chk36 (i : grid0.Coords) (v469 : IVec S16 32) : Prop :=
  (∀ (k0_h1 : k0_cond1 i = 1#1), ∀ a x, ((![v469] : Fin 1 → IVec S16 32) a x).toNat < S1280.size a)
theorem k0_idx36_inb : ∀ (i : grid0.Coords) (v469 : IVec S16 32) (k0_hw36 : k0_chk36 i v469), ∀ (k0_h1 : k0_cond1 i = 1#1), ∀ a x, ((![v469] : Fin 1 → IVec S16 32) a x).toNat < S1280.size a := fun i v469 k0_hw36 k0_h1 => k0_hw36 k0_h1

def k0_chk37 (i : grid0.Coords) (v525 : IVec S16 32) : Prop :=
  (∀ (k0_h1 : k0_cond1 i = 1#1), ∀ a x, ((![v525] : Fin 1 → IVec S16 32) a x).toNat < S1280.size a)
theorem k0_idx37_inb : ∀ (i : grid0.Coords) (v525 : IVec S16 32) (k0_hw37 : k0_chk37 i v525), ∀ (k0_h1 : k0_cond1 i = 1#1), ∀ a x, ((![v525] : Fin 1 → IVec S16 32) a x).toNat < S1280.size a := fun i v525 k0_hw37 k0_h1 => k0_hw37 k0_h1

def k0_chk38 (i : grid0.Coords) (v530 : IVec S16 32) : Prop :=
  (∀ (k0_h1 : k0_cond1 i = 1#1), ∀ a x, ((![v530] : Fin 1 → IVec S16 32) a x).toNat < S1280.size a)
theorem k0_idx38_inb : ∀ (i : grid0.Coords) (v530 : IVec S16 32) (k0_hw38 : k0_chk38 i v530), ∀ (k0_h1 : k0_cond1 i = 1#1), ∀ a x, ((![v530] : Fin 1 → IVec S16 32) a x).toNat < S1280.size a := fun i v530 k0_hw38 k0_h1 => k0_hw38 k0_h1

def k0_chk39 (i : grid0.Coords) (v535 : IVec S16 32) : Prop :=
  (∀ (k0_h1 : k0_cond1 i = 1#1), ∀ a x, ((![v535] : Fin 1 → IVec S16 32) a x).toNat < S1280.size a)
theorem k0_idx39_inb : ∀ (i : grid0.Coords) (v535 : IVec S16 32) (k0_hw39 : k0_chk39 i v535), ∀ (k0_h1 : k0_cond1 i = 1#1), ∀ a x, ((![v535] : Fin 1 → IVec S16 32) a x).toNat < S1280.size a := fun i v535 k0_hw39 k0_h1 => k0_hw39 k0_h1

def k0_chk40 (i : grid0.Coords) (v540 : IVec S16 32) : Prop :=
  (∀ (k0_h1 : k0_cond1 i = 1#1), ∀ a x, ((![v540] : Fin 1 → IVec S16 32) a x).toNat < S1280.size a)
theorem k0_idx40_inb : ∀ (i : grid0.Coords) (v540 : IVec S16 32) (k0_hw40 : k0_chk40 i v540), ∀ (k0_h1 : k0_cond1 i = 1#1), ∀ a x, ((![v540] : Fin 1 → IVec S16 32) a x).toNat < S1280.size a := fun i v540 k0_hw40 k0_h1 => k0_hw40 k0_h1

def k0_chk41 (i : grid0.Coords) (v545 : IVec S16 32) : Prop :=
  (∀ (k0_h1 : k0_cond1 i = 1#1), ∀ a x, ((![v545] : Fin 1 → IVec S16 32) a x).toNat < S1280.size a)
theorem k0_idx41_inb : ∀ (i : grid0.Coords) (v545 : IVec S16 32) (k0_hw41 : k0_chk41 i v545), ∀ (k0_h1 : k0_cond1 i = 1#1), ∀ a x, ((![v545] : Fin 1 → IVec S16 32) a x).toNat < S1280.size a := fun i v545 k0_hw41 k0_h1 => k0_hw41 k0_h1

def k0_chk42 (i : grid0.Coords) (v550 : IVec S16 32) : Prop :=
  (∀ (k0_h1 : k0_cond1 i = 1#1), ∀ a x, ((![v550] : Fin 1 → IVec S16 32) a x).toNat < S1280.size a)
theorem k0_idx42_inb : ∀ (i : grid0.Coords) (v550 : IVec S16 32) (k0_hw42 : k0_chk42 i v550), ∀ (k0_h1 : k0_cond1 i = 1#1), ∀ a x, ((![v550] : Fin 1 → IVec S16 32) a x).toNat < S1280.size a := fun i v550 k0_hw42 k0_h1 => k0_hw42 k0_h1
@[reducible] def k0_t1_loop : Scf.Loop 32 :=
  let c0_i32_138 : BitVec 32 := 0#32
  let c101_i32 : BitVec 32 := 101#32
  let v605 : BitVec 32 := Scalar.addi c0_i32_138 c101_i32
  let c1_i32_139 : BitVec 32 := 1#32
  ⟨c0_i32_138, v605, c1_i32_139⟩

def k0_chk43 (i : grid0.Coords) (v705 : IVec S16 32) : Prop :=
  (∀ (k0_h1 : k0_cond1 i = 1#1), ∀ a x, ((![v705] : Fin 1 → IVec S16 32) a x).toNat < S128.size a)
theorem k0_idx43_inb : ∀ (i : grid0.Coords) (v705 : IVec S16 32) (k0_hw43 : k0_chk43 i v705), ∀ (k0_h1 : k0_cond1 i = 1#1), ∀ a x, ((![v705] : Fin 1 → IVec S16 32) a x).toNat < S128.size a := fun i v705 k0_hw43 k0_h1 => k0_hw43 k0_h1

def k0_chk44 (i : grid0.Coords) (v606_0 : IVec S16 32) : Prop :=
  (∀ (k0_h1 : k0_cond1 i = 1#1), ∀ a x, ((![v606_0] : Fin 1 → IVec S16 32) a x).toNat < S128.size a) ∧
  (∀ (k0_h1 : k0_cond1 i = 1#1), ∀ a x, ((![v606_0] : Fin 1 → IVec S16 32) a x).toNat < S128.size a)
theorem k0_idx44_inb : ∀ (i : grid0.Coords) (v606_0 : IVec S16 32) (k0_hw44 : k0_chk44 i v606_0), ∀ (k0_h1 : k0_cond1 i = 1#1), ∀ a x, ((![v606_0] : Fin 1 → IVec S16 32) a x).toNat < S128.size a := fun i v606_0 k0_hw44 k0_h1 => k0_hw44.1 k0_h1
theorem k0_idx45_inb : ∀ (i : grid0.Coords) (v606_0 : IVec S16 32) (k0_hw44 : k0_chk44 i v606_0), ∀ (k0_h1 : k0_cond1 i = 1#1), ∀ a x, ((![v606_0] : Fin 1 → IVec S16 32) a x).toNat < S128.size a := fun i v606_0 k0_hw44 k0_h1 => k0_hw44.2 k0_h1

def k0_chk45 (i : grid0.Coords) (v606_0 : IVec S16 32) (v608 : IVec S16 32) : Prop :=
  (∀ (k0_h1 : k0_cond1 i = 1#1), ∀ a x, ((![v606_0, v608] : Fin 2 → IVec S16 32) a x).toNat < S128x4.size a)
theorem k0_idx46_inb : ∀ (i : grid0.Coords) (v606_0 : IVec S16 32) (v608 : IVec S16 32) (k0_hw45 : k0_chk45 i v606_0 v608), ∀ (k0_h1 : k0_cond1 i = 1#1), ∀ a x, ((![v606_0, v608] : Fin 2 → IVec S16 32) a x).toNat < S128x4.size a := fun i v606_0 v608 k0_hw45 k0_h1 => k0_hw45 k0_h1

def k0_chk46 (i : grid0.Coords) (v606_0 : IVec S16 32) (v609 : IVec S16 32) : Prop :=
  (∀ (k0_h1 : k0_cond1 i = 1#1), ∀ a x, ((![v606_0, v609] : Fin 2 → IVec S16 32) a x).toNat < S128x4.size a)
theorem k0_idx47_inb : ∀ (i : grid0.Coords) (v606_0 : IVec S16 32) (v609 : IVec S16 32) (k0_hw46 : k0_chk46 i v606_0 v609), ∀ (k0_h1 : k0_cond1 i = 1#1), ∀ a x, ((![v606_0, v609] : Fin 2 → IVec S16 32) a x).toNat < S128x4.size a := fun i v606_0 v609 k0_hw46 k0_h1 => k0_hw46 k0_h1

def k0_chk47 (i : grid0.Coords) (v606_0 : IVec S16 32) (v610 : IVec S16 32) : Prop :=
  (∀ (k0_h1 : k0_cond1 i = 1#1), ∀ a x, ((![v606_0, v610] : Fin 2 → IVec S16 32) a x).toNat < S128x4.size a)
theorem k0_idx48_inb : ∀ (i : grid0.Coords) (v606_0 : IVec S16 32) (v610 : IVec S16 32) (k0_hw47 : k0_chk47 i v606_0 v610), ∀ (k0_h1 : k0_cond1 i = 1#1), ∀ a x, ((![v606_0, v610] : Fin 2 → IVec S16 32) a x).toNat < S128x4.size a := fun i v606_0 v610 k0_hw47 k0_h1 => k0_hw47 k0_h1

def k0_chk48 (i : grid0.Coords) (v606_0 : IVec S16 32) (v611 : IVec S16 32) : Prop :=
  (∀ (k0_h1 : k0_cond1 i = 1#1), ∀ a x, ((![v606_0, v611] : Fin 2 → IVec S16 32) a x).toNat < S128x4.size a)
theorem k0_idx49_inb : ∀ (i : grid0.Coords) (v606_0 : IVec S16 32) (v611 : IVec S16 32) (k0_hw48 : k0_chk48 i v606_0 v611), ∀ (k0_h1 : k0_cond1 i = 1#1), ∀ a x, ((![v606_0, v611] : Fin 2 → IVec S16 32) a x).toNat < S128x4.size a := fun i v606_0 v611 k0_hw48 k0_h1 => k0_hw48 k0_h1

def k0_chk49 (i : grid0.Coords) (v606_1 : IVec S16 32) : Prop :=
  (∀ (k0_h1 : k0_cond1 i = 1#1), ∀ a x, ((![v606_1] : Fin 1 → IVec S16 32) a x).toNat < S128.size a) ∧
  (∀ (k0_h1 : k0_cond1 i = 1#1), ∀ a x, ((![v606_1] : Fin 1 → IVec S16 32) a x).toNat < S128.size a)
theorem k0_idx50_inb : ∀ (i : grid0.Coords) (v606_1 : IVec S16 32) (k0_hw49 : k0_chk49 i v606_1), ∀ (k0_h1 : k0_cond1 i = 1#1), ∀ a x, ((![v606_1] : Fin 1 → IVec S16 32) a x).toNat < S128.size a := fun i v606_1 k0_hw49 k0_h1 => k0_hw49.1 k0_h1
theorem k0_idx51_inb : ∀ (i : grid0.Coords) (v606_1 : IVec S16 32) (k0_hw49 : k0_chk49 i v606_1), ∀ (k0_h1 : k0_cond1 i = 1#1), ∀ a x, ((![v606_1] : Fin 1 → IVec S16 32) a x).toNat < S128.size a := fun i v606_1 k0_hw49 k0_h1 => k0_hw49.2 k0_h1

def k0_chk50 (i : grid0.Coords) (v606_1 : IVec S16 32) (v616 : IVec S16 32) : Prop :=
  (∀ (k0_h1 : k0_cond1 i = 1#1), ∀ a x, ((![v606_1, v616] : Fin 2 → IVec S16 32) a x).toNat < S128x4.size a)
theorem k0_idx52_inb : ∀ (i : grid0.Coords) (v606_1 : IVec S16 32) (v616 : IVec S16 32) (k0_hw50 : k0_chk50 i v606_1 v616), ∀ (k0_h1 : k0_cond1 i = 1#1), ∀ a x, ((![v606_1, v616] : Fin 2 → IVec S16 32) a x).toNat < S128x4.size a := fun i v606_1 v616 k0_hw50 k0_h1 => k0_hw50 k0_h1

def k0_chk51 (i : grid0.Coords) (v606_1 : IVec S16 32) (v617 : IVec S16 32) : Prop :=
  (∀ (k0_h1 : k0_cond1 i = 1#1), ∀ a x, ((![v606_1, v617] : Fin 2 → IVec S16 32) a x).toNat < S128x4.size a)
theorem k0_idx53_inb : ∀ (i : grid0.Coords) (v606_1 : IVec S16 32) (v617 : IVec S16 32) (k0_hw51 : k0_chk51 i v606_1 v617), ∀ (k0_h1 : k0_cond1 i = 1#1), ∀ a x, ((![v606_1, v617] : Fin 2 → IVec S16 32) a x).toNat < S128x4.size a := fun i v606_1 v617 k0_hw51 k0_h1 => k0_hw51 k0_h1

def k0_chk52 (i : grid0.Coords) (v606_1 : IVec S16 32) (v618 : IVec S16 32) : Prop :=
  (∀ (k0_h1 : k0_cond1 i = 1#1), ∀ a x, ((![v606_1, v618] : Fin 2 → IVec S16 32) a x).toNat < S128x4.size a)
theorem k0_idx54_inb : ∀ (i : grid0.Coords) (v606_1 : IVec S16 32) (v618 : IVec S16 32) (k0_hw52 : k0_chk52 i v606_1 v618), ∀ (k0_h1 : k0_cond1 i = 1#1), ∀ a x, ((![v606_1, v618] : Fin 2 → IVec S16 32) a x).toNat < S128x4.size a := fun i v606_1 v618 k0_hw52 k0_h1 => k0_hw52 k0_h1

def k0_chk53 (i : grid0.Coords) (v606_1 : IVec S16 32) (v619 : IVec S16 32) : Prop :=
  (∀ (k0_h1 : k0_cond1 i = 1#1), ∀ a x, ((![v606_1, v619] : Fin 2 → IVec S16 32) a x).toNat < S128x4.size a)
theorem k0_idx55_inb : ∀ (i : grid0.Coords) (v606_1 : IVec S16 32) (v619 : IVec S16 32) (k0_hw53 : k0_chk53 i v606_1 v619), ∀ (k0_h1 : k0_cond1 i = 1#1), ∀ a x, ((![v606_1, v619] : Fin 2 → IVec S16 32) a x).toNat < S128x4.size a := fun i v606_1 v619 k0_hw53 k0_h1 => k0_hw53 k0_h1

def k0_chk54 (i : grid0.Coords) (v606_2 : IVec S16 32) : Prop :=
  (∀ (k0_h1 : k0_cond1 i = 1#1), ∀ a x, ((![v606_2] : Fin 1 → IVec S16 32) a x).toNat < S128.size a) ∧
  (∀ (k0_h1 : k0_cond1 i = 1#1), ∀ a x, ((![v606_2] : Fin 1 → IVec S16 32) a x).toNat < S128.size a)
theorem k0_idx56_inb : ∀ (i : grid0.Coords) (v606_2 : IVec S16 32) (k0_hw54 : k0_chk54 i v606_2), ∀ (k0_h1 : k0_cond1 i = 1#1), ∀ a x, ((![v606_2] : Fin 1 → IVec S16 32) a x).toNat < S128.size a := fun i v606_2 k0_hw54 k0_h1 => k0_hw54.1 k0_h1
theorem k0_idx57_inb : ∀ (i : grid0.Coords) (v606_2 : IVec S16 32) (k0_hw54 : k0_chk54 i v606_2), ∀ (k0_h1 : k0_cond1 i = 1#1), ∀ a x, ((![v606_2] : Fin 1 → IVec S16 32) a x).toNat < S128.size a := fun i v606_2 k0_hw54 k0_h1 => k0_hw54.2 k0_h1

def k0_chk55 (i : grid0.Coords) (v606_2 : IVec S16 32) (v624 : IVec S16 32) : Prop :=
  (∀ (k0_h1 : k0_cond1 i = 1#1), ∀ a x, ((![v606_2, v624] : Fin 2 → IVec S16 32) a x).toNat < S128x4.size a)
theorem k0_idx58_inb : ∀ (i : grid0.Coords) (v606_2 : IVec S16 32) (v624 : IVec S16 32) (k0_hw55 : k0_chk55 i v606_2 v624), ∀ (k0_h1 : k0_cond1 i = 1#1), ∀ a x, ((![v606_2, v624] : Fin 2 → IVec S16 32) a x).toNat < S128x4.size a := fun i v606_2 v624 k0_hw55 k0_h1 => k0_hw55 k0_h1

def k0_chk56 (i : grid0.Coords) (v606_2 : IVec S16 32) (v625 : IVec S16 32) : Prop :=
  (∀ (k0_h1 : k0_cond1 i = 1#1), ∀ a x, ((![v606_2, v625] : Fin 2 → IVec S16 32) a x).toNat < S128x4.size a)
theorem k0_idx59_inb : ∀ (i : grid0.Coords) (v606_2 : IVec S16 32) (v625 : IVec S16 32) (k0_hw56 : k0_chk56 i v606_2 v625), ∀ (k0_h1 : k0_cond1 i = 1#1), ∀ a x, ((![v606_2, v625] : Fin 2 → IVec S16 32) a x).toNat < S128x4.size a := fun i v606_2 v625 k0_hw56 k0_h1 => k0_hw56 k0_h1

def k0_chk57 (i : grid0.Coords) (v606_2 : IVec S16 32) (v626 : IVec S16 32) : Prop :=
  (∀ (k0_h1 : k0_cond1 i = 1#1), ∀ a x, ((![v606_2, v626] : Fin 2 → IVec S16 32) a x).toNat < S128x4.size a)
theorem k0_idx60_inb : ∀ (i : grid0.Coords) (v606_2 : IVec S16 32) (v626 : IVec S16 32) (k0_hw57 : k0_chk57 i v606_2 v626), ∀ (k0_h1 : k0_cond1 i = 1#1), ∀ a x, ((![v606_2, v626] : Fin 2 → IVec S16 32) a x).toNat < S128x4.size a := fun i v606_2 v626 k0_hw57 k0_h1 => k0_hw57 k0_h1

def k0_chk58 (i : grid0.Coords) (v606_2 : IVec S16 32) (v627 : IVec S16 32) : Prop :=
  (∀ (k0_h1 : k0_cond1 i = 1#1), ∀ a x, ((![v606_2, v627] : Fin 2 → IVec S16 32) a x).toNat < S128x4.size a)
theorem k0_idx61_inb : ∀ (i : grid0.Coords) (v606_2 : IVec S16 32) (v627 : IVec S16 32) (k0_hw58 : k0_chk58 i v606_2 v627), ∀ (k0_h1 : k0_cond1 i = 1#1), ∀ a x, ((![v606_2, v627] : Fin 2 → IVec S16 32) a x).toNat < S128x4.size a := fun i v606_2 v627 k0_hw58 k0_h1 => k0_hw58 k0_h1

def k0_chk59 (i : grid0.Coords) (v606_3 : IVec S16 32) : Prop :=
  (∀ (k0_h1 : k0_cond1 i = 1#1), ∀ a x, ((![v606_3] : Fin 1 → IVec S16 32) a x).toNat < S128.size a) ∧
  (∀ (k0_h1 : k0_cond1 i = 1#1), ∀ a x, ((![v606_3] : Fin 1 → IVec S16 32) a x).toNat < S128.size a)
theorem k0_idx62_inb : ∀ (i : grid0.Coords) (v606_3 : IVec S16 32) (k0_hw59 : k0_chk59 i v606_3), ∀ (k0_h1 : k0_cond1 i = 1#1), ∀ a x, ((![v606_3] : Fin 1 → IVec S16 32) a x).toNat < S128.size a := fun i v606_3 k0_hw59 k0_h1 => k0_hw59.1 k0_h1
theorem k0_idx63_inb : ∀ (i : grid0.Coords) (v606_3 : IVec S16 32) (k0_hw59 : k0_chk59 i v606_3), ∀ (k0_h1 : k0_cond1 i = 1#1), ∀ a x, ((![v606_3] : Fin 1 → IVec S16 32) a x).toNat < S128.size a := fun i v606_3 k0_hw59 k0_h1 => k0_hw59.2 k0_h1

def k0_chk60 (i : grid0.Coords) (v606_3 : IVec S16 32) (v632 : IVec S16 32) : Prop :=
  (∀ (k0_h1 : k0_cond1 i = 1#1), ∀ a x, ((![v606_3, v632] : Fin 2 → IVec S16 32) a x).toNat < S128x4.size a)
theorem k0_idx64_inb : ∀ (i : grid0.Coords) (v606_3 : IVec S16 32) (v632 : IVec S16 32) (k0_hw60 : k0_chk60 i v606_3 v632), ∀ (k0_h1 : k0_cond1 i = 1#1), ∀ a x, ((![v606_3, v632] : Fin 2 → IVec S16 32) a x).toNat < S128x4.size a := fun i v606_3 v632 k0_hw60 k0_h1 => k0_hw60 k0_h1

def k0_chk61 (i : grid0.Coords) (v606_3 : IVec S16 32) (v633 : IVec S16 32) : Prop :=
  (∀ (k0_h1 : k0_cond1 i = 1#1), ∀ a x, ((![v606_3, v633] : Fin 2 → IVec S16 32) a x).toNat < S128x4.size a)
theorem k0_idx65_inb : ∀ (i : grid0.Coords) (v606_3 : IVec S16 32) (v633 : IVec S16 32) (k0_hw61 : k0_chk61 i v606_3 v633), ∀ (k0_h1 : k0_cond1 i = 1#1), ∀ a x, ((![v606_3, v633] : Fin 2 → IVec S16 32) a x).toNat < S128x4.size a := fun i v606_3 v633 k0_hw61 k0_h1 => k0_hw61 k0_h1

def k0_chk62 (i : grid0.Coords) (v606_3 : IVec S16 32) (v634 : IVec S16 32) : Prop :=
  (∀ (k0_h1 : k0_cond1 i = 1#1), ∀ a x, ((![v606_3, v634] : Fin 2 → IVec S16 32) a x).toNat < S128x4.size a)
theorem k0_idx66_inb : ∀ (i : grid0.Coords) (v606_3 : IVec S16 32) (v634 : IVec S16 32) (k0_hw62 : k0_chk62 i v606_3 v634), ∀ (k0_h1 : k0_cond1 i = 1#1), ∀ a x, ((![v606_3, v634] : Fin 2 → IVec S16 32) a x).toNat < S128x4.size a := fun i v606_3 v634 k0_hw62 k0_h1 => k0_hw62 k0_h1

def k0_chk63 (i : grid0.Coords) (v606_3 : IVec S16 32) (v635 : IVec S16 32) : Prop :=
  (∀ (k0_h1 : k0_cond1 i = 1#1), ∀ a x, ((![v606_3, v635] : Fin 2 → IVec S16 32) a x).toNat < S128x4.size a)
theorem k0_idx67_inb : ∀ (i : grid0.Coords) (v606_3 : IVec S16 32) (v635 : IVec S16 32) (k0_hw63 : k0_chk63 i v606_3 v635), ∀ (k0_h1 : k0_cond1 i = 1#1), ∀ a x, ((![v606_3, v635] : Fin 2 → IVec S16 32) a x).toNat < S128x4.size a := fun i v606_3 v635 k0_hw63 k0_h1 => k0_hw63 k0_h1

def k0_chk64 (i : grid0.Coords) (v606_4 : IVec S16 32) : Prop :=
  (∀ (k0_h1 : k0_cond1 i = 1#1), ∀ a x, ((![v606_4] : Fin 1 → IVec S16 32) a x).toNat < S128.size a) ∧
  (∀ (k0_h1 : k0_cond1 i = 1#1), ∀ a x, ((![v606_4] : Fin 1 → IVec S16 32) a x).toNat < S128.size a)
theorem k0_idx68_inb : ∀ (i : grid0.Coords) (v606_4 : IVec S16 32) (k0_hw64 : k0_chk64 i v606_4), ∀ (k0_h1 : k0_cond1 i = 1#1), ∀ a x, ((![v606_4] : Fin 1 → IVec S16 32) a x).toNat < S128.size a := fun i v606_4 k0_hw64 k0_h1 => k0_hw64.1 k0_h1
theorem k0_idx69_inb : ∀ (i : grid0.Coords) (v606_4 : IVec S16 32) (k0_hw64 : k0_chk64 i v606_4), ∀ (k0_h1 : k0_cond1 i = 1#1), ∀ a x, ((![v606_4] : Fin 1 → IVec S16 32) a x).toNat < S128.size a := fun i v606_4 k0_hw64 k0_h1 => k0_hw64.2 k0_h1

def k0_chk65 (i : grid0.Coords) (v606_4 : IVec S16 32) (v640 : IVec S16 32) : Prop :=
  (∀ (k0_h1 : k0_cond1 i = 1#1), ∀ a x, ((![v606_4, v640] : Fin 2 → IVec S16 32) a x).toNat < S128x4.size a)
theorem k0_idx70_inb : ∀ (i : grid0.Coords) (v606_4 : IVec S16 32) (v640 : IVec S16 32) (k0_hw65 : k0_chk65 i v606_4 v640), ∀ (k0_h1 : k0_cond1 i = 1#1), ∀ a x, ((![v606_4, v640] : Fin 2 → IVec S16 32) a x).toNat < S128x4.size a := fun i v606_4 v640 k0_hw65 k0_h1 => k0_hw65 k0_h1

def k0_chk66 (i : grid0.Coords) (v606_4 : IVec S16 32) (v641 : IVec S16 32) : Prop :=
  (∀ (k0_h1 : k0_cond1 i = 1#1), ∀ a x, ((![v606_4, v641] : Fin 2 → IVec S16 32) a x).toNat < S128x4.size a)
theorem k0_idx71_inb : ∀ (i : grid0.Coords) (v606_4 : IVec S16 32) (v641 : IVec S16 32) (k0_hw66 : k0_chk66 i v606_4 v641), ∀ (k0_h1 : k0_cond1 i = 1#1), ∀ a x, ((![v606_4, v641] : Fin 2 → IVec S16 32) a x).toNat < S128x4.size a := fun i v606_4 v641 k0_hw66 k0_h1 => k0_hw66 k0_h1

def k0_chk67 (i : grid0.Coords) (v606_4 : IVec S16 32) (v642 : IVec S16 32) : Prop :=
  (∀ (k0_h1 : k0_cond1 i = 1#1), ∀ a x, ((![v606_4, v642] : Fin 2 → IVec S16 32) a x).toNat < S128x4.size a)
theorem k0_idx72_inb : ∀ (i : grid0.Coords) (v606_4 : IVec S16 32) (v642 : IVec S16 32) (k0_hw67 : k0_chk67 i v606_4 v642), ∀ (k0_h1 : k0_cond1 i = 1#1), ∀ a x, ((![v606_4, v642] : Fin 2 → IVec S16 32) a x).toNat < S128x4.size a := fun i v606_4 v642 k0_hw67 k0_h1 => k0_hw67 k0_h1

def k0_chk68 (i : grid0.Coords) (v606_4 : IVec S16 32) (v643 : IVec S16 32) : Prop :=
  (∀ (k0_h1 : k0_cond1 i = 1#1), ∀ a x, ((![v606_4, v643] : Fin 2 → IVec S16 32) a x).toNat < S128x4.size a)
theorem k0_idx73_inb : ∀ (i : grid0.Coords) (v606_4 : IVec S16 32) (v643 : IVec S16 32) (k0_hw68 : k0_chk68 i v606_4 v643), ∀ (k0_h1 : k0_cond1 i = 1#1), ∀ a x, ((![v606_4, v643] : Fin 2 → IVec S16 32) a x).toNat < S128x4.size a := fun i v606_4 v643 k0_hw68 k0_h1 => k0_hw68 k0_h1

def k0_chk69 (i : grid0.Coords) (v606_5 : IVec S16 32) : Prop :=
  (∀ (k0_h1 : k0_cond1 i = 1#1), ∀ a x, ((![v606_5] : Fin 1 → IVec S16 32) a x).toNat < S128.size a) ∧
  (∀ (k0_h1 : k0_cond1 i = 1#1), ∀ a x, ((![v606_5] : Fin 1 → IVec S16 32) a x).toNat < S128.size a)
theorem k0_idx74_inb : ∀ (i : grid0.Coords) (v606_5 : IVec S16 32) (k0_hw69 : k0_chk69 i v606_5), ∀ (k0_h1 : k0_cond1 i = 1#1), ∀ a x, ((![v606_5] : Fin 1 → IVec S16 32) a x).toNat < S128.size a := fun i v606_5 k0_hw69 k0_h1 => k0_hw69.1 k0_h1
theorem k0_idx75_inb : ∀ (i : grid0.Coords) (v606_5 : IVec S16 32) (k0_hw69 : k0_chk69 i v606_5), ∀ (k0_h1 : k0_cond1 i = 1#1), ∀ a x, ((![v606_5] : Fin 1 → IVec S16 32) a x).toNat < S128.size a := fun i v606_5 k0_hw69 k0_h1 => k0_hw69.2 k0_h1

def k0_chk70 (i : grid0.Coords) (v606_5 : IVec S16 32) (v648 : IVec S16 32) : Prop :=
  (∀ (k0_h1 : k0_cond1 i = 1#1), ∀ a x, ((![v606_5, v648] : Fin 2 → IVec S16 32) a x).toNat < S128x4.size a)
theorem k0_idx76_inb : ∀ (i : grid0.Coords) (v606_5 : IVec S16 32) (v648 : IVec S16 32) (k0_hw70 : k0_chk70 i v606_5 v648), ∀ (k0_h1 : k0_cond1 i = 1#1), ∀ a x, ((![v606_5, v648] : Fin 2 → IVec S16 32) a x).toNat < S128x4.size a := fun i v606_5 v648 k0_hw70 k0_h1 => k0_hw70 k0_h1

def k0_chk71 (i : grid0.Coords) (v606_5 : IVec S16 32) (v649 : IVec S16 32) : Prop :=
  (∀ (k0_h1 : k0_cond1 i = 1#1), ∀ a x, ((![v606_5, v649] : Fin 2 → IVec S16 32) a x).toNat < S128x4.size a)
theorem k0_idx77_inb : ∀ (i : grid0.Coords) (v606_5 : IVec S16 32) (v649 : IVec S16 32) (k0_hw71 : k0_chk71 i v606_5 v649), ∀ (k0_h1 : k0_cond1 i = 1#1), ∀ a x, ((![v606_5, v649] : Fin 2 → IVec S16 32) a x).toNat < S128x4.size a := fun i v606_5 v649 k0_hw71 k0_h1 => k0_hw71 k0_h1

def k0_chk72 (i : grid0.Coords) (v606_5 : IVec S16 32) (v650 : IVec S16 32) : Prop :=
  (∀ (k0_h1 : k0_cond1 i = 1#1), ∀ a x, ((![v606_5, v650] : Fin 2 → IVec S16 32) a x).toNat < S128x4.size a)
theorem k0_idx78_inb : ∀ (i : grid0.Coords) (v606_5 : IVec S16 32) (v650 : IVec S16 32) (k0_hw72 : k0_chk72 i v606_5 v650), ∀ (k0_h1 : k0_cond1 i = 1#1), ∀ a x, ((![v606_5, v650] : Fin 2 → IVec S16 32) a x).toNat < S128x4.size a := fun i v606_5 v650 k0_hw72 k0_h1 => k0_hw72 k0_h1

def k0_chk73 (i : grid0.Coords) (v606_5 : IVec S16 32) (v651 : IVec S16 32) : Prop :=
  (∀ (k0_h1 : k0_cond1 i = 1#1), ∀ a x, ((![v606_5, v651] : Fin 2 → IVec S16 32) a x).toNat < S128x4.size a)
theorem k0_idx79_inb : ∀ (i : grid0.Coords) (v606_5 : IVec S16 32) (v651 : IVec S16 32) (k0_hw73 : k0_chk73 i v606_5 v651), ∀ (k0_h1 : k0_cond1 i = 1#1), ∀ a x, ((![v606_5, v651] : Fin 2 → IVec S16 32) a x).toNat < S128x4.size a := fun i v606_5 v651 k0_hw73 k0_h1 => k0_hw73 k0_h1

def k0_chk74 (i : grid0.Coords) (v606_6 : IVec S16 32) : Prop :=
  (∀ (k0_h1 : k0_cond1 i = 1#1), ∀ a x, ((![v606_6] : Fin 1 → IVec S16 32) a x).toNat < S128.size a) ∧
  (∀ (k0_h1 : k0_cond1 i = 1#1), ∀ a x, ((![v606_6] : Fin 1 → IVec S16 32) a x).toNat < S128.size a)
theorem k0_idx80_inb : ∀ (i : grid0.Coords) (v606_6 : IVec S16 32) (k0_hw74 : k0_chk74 i v606_6), ∀ (k0_h1 : k0_cond1 i = 1#1), ∀ a x, ((![v606_6] : Fin 1 → IVec S16 32) a x).toNat < S128.size a := fun i v606_6 k0_hw74 k0_h1 => k0_hw74.1 k0_h1
theorem k0_idx81_inb : ∀ (i : grid0.Coords) (v606_6 : IVec S16 32) (k0_hw74 : k0_chk74 i v606_6), ∀ (k0_h1 : k0_cond1 i = 1#1), ∀ a x, ((![v606_6] : Fin 1 → IVec S16 32) a x).toNat < S128.size a := fun i v606_6 k0_hw74 k0_h1 => k0_hw74.2 k0_h1

def k0_chk75 (i : grid0.Coords) (v606_6 : IVec S16 32) (v656 : IVec S16 32) : Prop :=
  (∀ (k0_h1 : k0_cond1 i = 1#1), ∀ a x, ((![v606_6, v656] : Fin 2 → IVec S16 32) a x).toNat < S128x4.size a)
theorem k0_idx82_inb : ∀ (i : grid0.Coords) (v606_6 : IVec S16 32) (v656 : IVec S16 32) (k0_hw75 : k0_chk75 i v606_6 v656), ∀ (k0_h1 : k0_cond1 i = 1#1), ∀ a x, ((![v606_6, v656] : Fin 2 → IVec S16 32) a x).toNat < S128x4.size a := fun i v606_6 v656 k0_hw75 k0_h1 => k0_hw75 k0_h1

def k0_chk76 (i : grid0.Coords) (v606_6 : IVec S16 32) (v657 : IVec S16 32) : Prop :=
  (∀ (k0_h1 : k0_cond1 i = 1#1), ∀ a x, ((![v606_6, v657] : Fin 2 → IVec S16 32) a x).toNat < S128x4.size a)
theorem k0_idx83_inb : ∀ (i : grid0.Coords) (v606_6 : IVec S16 32) (v657 : IVec S16 32) (k0_hw76 : k0_chk76 i v606_6 v657), ∀ (k0_h1 : k0_cond1 i = 1#1), ∀ a x, ((![v606_6, v657] : Fin 2 → IVec S16 32) a x).toNat < S128x4.size a := fun i v606_6 v657 k0_hw76 k0_h1 => k0_hw76 k0_h1

def k0_chk77 (i : grid0.Coords) (v606_6 : IVec S16 32) (v658 : IVec S16 32) : Prop :=
  (∀ (k0_h1 : k0_cond1 i = 1#1), ∀ a x, ((![v606_6, v658] : Fin 2 → IVec S16 32) a x).toNat < S128x4.size a)
theorem k0_idx84_inb : ∀ (i : grid0.Coords) (v606_6 : IVec S16 32) (v658 : IVec S16 32) (k0_hw77 : k0_chk77 i v606_6 v658), ∀ (k0_h1 : k0_cond1 i = 1#1), ∀ a x, ((![v606_6, v658] : Fin 2 → IVec S16 32) a x).toNat < S128x4.size a := fun i v606_6 v658 k0_hw77 k0_h1 => k0_hw77 k0_h1

def k0_chk78 (i : grid0.Coords) (v606_6 : IVec S16 32) (v659 : IVec S16 32) : Prop :=
  (∀ (k0_h1 : k0_cond1 i = 1#1), ∀ a x, ((![v606_6, v659] : Fin 2 → IVec S16 32) a x).toNat < S128x4.size a)
theorem k0_idx85_inb : ∀ (i : grid0.Coords) (v606_6 : IVec S16 32) (v659 : IVec S16 32) (k0_hw78 : k0_chk78 i v606_6 v659), ∀ (k0_h1 : k0_cond1 i = 1#1), ∀ a x, ((![v606_6, v659] : Fin 2 → IVec S16 32) a x).toNat < S128x4.size a := fun i v606_6 v659 k0_hw78 k0_h1 => k0_hw78 k0_h1
def k0_off2 (i : grid0.Coords) : Fin 2 → Nat :=
  let arg1 : BitVec 32 := BitVec.ofNat 32 (i 1).val
  let c0_i32_179 : BitVec 32 := 0#32
  ![arg1.toNat, 0]
def k0_off3 (i : grid0.Coords) : Fin 3 → Nat :=
  let arg1 : BitVec 32 := BitVec.ofNat 32 (i 1).val
  let c0_i32_181 : BitVec 32 := 0#32
  let c0_i32_182 : BitVec 32 := 0#32
  ![arg1.toNat, 0, 0]
def k0_off4 (i : grid0.Coords) : Fin 2 → Nat :=
  let arg1 : BitVec 32 := BitVec.ofNat 32 (i 1).val
  let c0_i32_185 : BitVec 32 := 0#32
  ![arg1.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x20000x85 : Shape := ⟨3, ![8, 20000, 85]⟩
abbrev S4x4 : Shape := ⟨2, ![4, 4]⟩
abbrev S100 : Shape := ⟨1, ![100]⟩
abbrev S1x100 : Shape := ⟨2, ![1, 100]⟩
abbrev S8x20000x4 : Shape := ⟨3, ![8, 20000, 4]⟩
abbrev S8x20000x1 : Shape := ⟨3, ![8, 20000, 1]⟩
abbrev S8x20000x80 : Shape := ⟨3, ![8, 20000, 80]⟩
abbrev S8x80x20000 : Shape := ⟨3, ![8, 80, 20000]⟩
abbrev S_ : Shape := ⟨0, ![]⟩
abbrev S100x1 : Shape := ⟨2, ![100, 1]⟩
abbrev S100x3 : Shape := ⟨2, ![100, 3]⟩
abbrev S100x2 : Shape := ⟨2, ![100, 2]⟩
abbrev S100x4 : Shape := ⟨2, ![100, 4]⟩
abbrev S100x5 : Shape := ⟨2, ![100, 5]⟩
abbrev S1x100x5 : Shape := ⟨3, ![1, 100, 5]⟩
abbrev S8x100x5 : Shape := ⟨3, ![8, 100, 5]⟩
abbrev S8 : Shape := ⟨1, ![8]⟩
abbrev S8x1 : Shape := ⟨2, ![8, 1]⟩
abbrev S8x100 : Shape := ⟨2, ![8, 100]⟩
abbrev S8x100x1 : Shape := ⟨3, ![8, 100, 1]⟩
abbrev S8x1x5 : Shape := ⟨3, ![8, 1, 5]⟩
abbrev S8x101x5 : Shape := ⟨3, ![8, 101, 5]⟩
abbrev S8x101 : Shape := ⟨2, ![8, 101]⟩
abbrev S8x101x1 : Shape := ⟨3, ![8, 101, 1]⟩
abbrev S1 : Shape := ⟨1, ![1]⟩
abbrev S1x1x1 : Shape := ⟨3, ![1, 1, 1]⟩
abbrev S8x101x4 : Shape := ⟨3, ![8, 101, 4]⟩

abbrev nBuf : Space → Nat
  | .hbm => 137
  | .vmem => 0
  | .smem => 0
  | _ => 0

abbrev hbmTy0_0 (i : Nat) : BufTy := match i % 128 with
  | 0 => ⟨S8x20000x85, .f32⟩
  | 1 => ⟨S4x4, .f32⟩
  | 2 => ⟨S100, .i32⟩
  | 3 => ⟨S100, .i1⟩
  | 4 => ⟨S100, .i32⟩
  | 5 => ⟨S100, .i1⟩
  | 6 => ⟨S100, .i32⟩
  | 7 => ⟨S100, .i1⟩
  | 8 => ⟨S100, .i1⟩
  | 9 => ⟨S100, .i1⟩
  | 10 => ⟨S100, .i32⟩
  | 11 => ⟨S1x100, .i32⟩
  | 12 => ⟨S100, .i32⟩
  | 13 => ⟨S1x100, .i32⟩
  | 14 => ⟨S8x20000x4, .f32⟩
  | 15 => ⟨S8x20000x1, .f32⟩
  | 16 => ⟨S8x20000x80, .f32⟩
  | 17 => ⟨S8x20000x80, .f32⟩
  | 18 => ⟨S8x20000x80, .f32⟩
  | 19 => ⟨S8x20000x4, .f32⟩
  | 20 => ⟨S8x80x20000, .f32⟩
  | 21 => ⟨S_, .i32⟩
  | 22 => ⟨S100, .i32⟩
  | 23 => ⟨S100, .i32⟩
  | 24 => ⟨S100, .i32⟩
  | 25 => ⟨S_, .i32⟩
  | 26 => ⟨S100, .i32⟩
  | 27 => ⟨S100, .i32⟩
  | 28 => ⟨S100, .i32⟩
  | 29 => ⟨S_, .i32⟩
  | 30 => ⟨S100, .i32⟩
  | 31 => ⟨S100, .i32⟩
  | 32 => ⟨S100, .i32⟩
  | 33 => ⟨S100x1, .i32⟩
  | 34 => ⟨S100x1, .i32⟩
  | 35 => ⟨S100x1, .i32⟩
  | 36 => ⟨S100x3, .i32⟩
  | 37 => ⟨S100, .f32⟩
  | 38 => ⟨S100x1, .f32⟩
  | 39 => ⟨S_, .i32⟩
  | 40 => ⟨S100, .i32⟩
  | 41 => ⟨S100, .i32⟩
  | 42 => ⟨S100, .i32⟩
  | 43 => ⟨S_, .i32⟩
  | 44 => ⟨S100, .i32⟩
  | 45 => ⟨S100, .i32⟩
  | 46 => ⟨S100, .i32⟩
  | 47 => ⟨S100x1, .i32⟩
  | 48 => ⟨S100x1, .i32⟩
  | 49 => ⟨S100x2, .i32⟩
  | 50 => ⟨S100x4, .f32⟩
  | 51 => ⟨S100x5, .f32⟩
  | 52 => ⟨S1x100x5, .f32⟩
  | 53 => ⟨S8x100x5, .f32⟩
  | 54 => ⟨S8, .i32⟩
  | 55 => ⟨S8x1, .i32⟩
  | 56 => ⟨S8x100, .i32⟩
  | 57 => ⟨S8x100, .i32⟩
  | 58 => ⟨S8x100, .i1⟩
  | 59 => ⟨S8x100x1, .i1⟩
  | 60 => ⟨S_, .f32⟩
  | 61 => ⟨S8x100x5, .i1⟩
  | 62 => ⟨S8x100x5, .f32⟩
  | 63 => ⟨S8x100x5, .f32⟩
  | 64 => ⟨S8x100, .i32⟩
  | 65 => ⟨S_, .i32⟩
  | 66 => ⟨S_, .i32⟩
  | 67 => ⟨S8x100, .i32⟩
  | 68 => ⟨S8x100, .i32⟩
  | 69 => ⟨S_, .f32⟩
  | 70 => ⟨S8x1x5, .f32⟩
  | 71 => ⟨S8x101x5, .f32⟩
  | 72 => ⟨S_, .i32⟩
  | 73 => ⟨S8x1, .i32⟩
  | 74 => ⟨S8x1, .i32⟩
  | 75 => ⟨S8x101, .i32⟩
  | 76 => ⟨S8x101x1, .f32⟩
  | 77 => ⟨S8x101, .f32⟩
  | 78 => ⟨S8x101, .f32⟩
  | 79 => ⟨S8x101, .i32⟩
  | 80 => ⟨S8x101, .f32⟩
  | 81 => ⟨S8x101, .i32⟩
  | 82 => ⟨S8x101x1, .i32⟩
  | 83 => ⟨S_, .i32⟩
  | 84 => ⟨S8x101x1, .i32⟩
  | 85 => ⟨S8x101x1, .i1⟩
  | 86 => ⟨S_, .i32⟩
  | 87 => ⟨S8x101x1, .i32⟩
  | 88 => ⟨S8x101x1, .i32⟩
  | 89 => ⟨S8x101x1, .i32⟩
  | 90 => ⟨S1, .i32⟩
  | 91 => ⟨S_, .i32⟩
  | 92 => ⟨S8x101x1, .i32⟩
  | 93 => ⟨S8x101x1, .i1⟩
  | 94 => ⟨S1x1x1, .i32⟩
  | 95 => ⟨S8x101x1, .i32⟩
  | 96 => ⟨S8x101x1, .i1⟩
  | 97 => ⟨S8x101x1, .i1⟩
  | 98 => ⟨S_, .i1⟩
  | 99 => ⟨S8x101, .i1⟩
  | 100 => ⟨S8x101x5, .f32⟩
  | 101 => ⟨S8x101x5, .i1⟩
  | 102 => ⟨S_, .f32⟩
  | 103 => ⟨S8x101x5, .f32⟩
  | 104 => ⟨S8x101x5, .f32⟩
  | 105 => ⟨S_, .i32⟩
  | 106 => ⟨S8x101, .i32⟩
  | 107 => ⟨S8x101, .i1⟩
  | 108 => ⟨S_, .i32⟩
  | 109 => ⟨S8x101, .i32⟩
  | 110 => ⟨S8x101, .i32⟩
  | 111 => ⟨S8x101, .i32⟩
  | 112 => ⟨S8x101x1, .i32⟩
  | 113 => ⟨S1, .i32⟩
  | 114 => ⟨S_, .i32⟩
  | 115 => ⟨S8x101x1, .i32⟩
  | 116 => ⟨S8x101x1, .i1⟩
  | 117 => ⟨S1x1x1, .i32⟩
  | 118 => ⟨S8x101x1, .i32⟩
  | 119 => ⟨S8x101x1, .i1⟩
  | 120 => ⟨S8x101x1, .i1⟩
  | 121 => ⟨S_, .i1⟩
  | 122 => ⟨S8x101, .i1⟩
  | 123 => ⟨S8x101, .i32⟩
  | 124 => ⟨S_, .i32⟩
  | 125 => ⟨S8x101, .i32⟩
  | 126 => ⟨S8x101, .i32⟩
  | 127 => ⟨S8x101x4, .f32⟩
  | _ => ⟨S8x20000x85, .f32⟩

abbrev hbmTy0_1 (i : Nat) : BufTy := match i % 128 with
  | 0 => ⟨S8x101x1, .f32⟩
  | 1 => ⟨S8x101, .f32⟩
  | 2 => ⟨S_, .f32⟩
  | 3 => ⟨S8x101, .f32⟩
  | 4 => ⟨S8x101, .i1⟩
  | 5 => ⟨S8x101, .i32⟩
  | 6 => ⟨S_, .i32⟩
  | 7 => ⟨S8, .i32⟩
  | 8 => ⟨S8x1, .i32⟩
  | _ => ⟨S8x20000x85, .f32⟩

abbrev hbmTy (i : Nat) : BufTy := match i / 128 with
  | 0 => hbmTy0_0 i
  | 1 => hbmTy0_1 i
  | _ => ⟨S8x20000x85, .f32⟩

abbrev bufTy : (tb : Table) → Fin (tcTables nBuf tb) → BufTy
  | .hbm, ⟨i, _⟩ => hbmTy i
  | _, _ => ⟨S8x20000x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_v0 : Ref sig .tc := ⟨.hbm, 11, rfl⟩
abbrev main_c_8 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_9 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_10 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_11 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_12 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_13 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst : Ref sig .tc := ⟨.hbm, 60, rfl⟩
abbrev main_call0_v0 : Ref sig .tc := ⟨.hbm, 61, rfl⟩
abbrev main_call0_v1 : Ref sig .tc := ⟨.hbm, 62, rfl⟩
abbrev main_v43 : Ref sig .tc := ⟨.hbm, 63, rfl⟩
abbrev main_v44 : Ref sig .tc := ⟨.hbm, 64, rfl⟩
abbrev main_c_14 : Ref sig .tc := ⟨.hbm, 65, rfl⟩
abbrev main_v45 : Ref sig .tc := ⟨.hbm, 66, rfl⟩
abbrev main_call1_v0 : Ref sig .tc := ⟨.hbm, 67, rfl⟩
abbrev main_v46 : Ref sig .tc := ⟨.hbm, 68, rfl⟩
abbrev main_cst_15 : Ref sig .tc := ⟨.hbm, 69, rfl⟩
abbrev main_v47 : Ref sig .tc := ⟨.hbm, 70, rfl⟩
abbrev main_v48 : Ref sig .tc := ⟨.hbm, 71, rfl⟩
abbrev main_c_16 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call2_v0 : Ref sig .tc := ⟨.hbm, 79, rfl⟩
abbrev main_call2_v1_0 : Ref sig .tc := ⟨.hbm, 80, rfl⟩
abbrev main_v55 : Ref sig .tc := ⟨.hbm, 81, rfl⟩
abbrev main_v56 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_c_1 : Ref sig .tc := ⟨.hbm, 90, rfl⟩
abbrev main_call3_c_2 : Ref sig .tc := ⟨.hbm, 91, rfl⟩
abbrev main_call3_v5 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_c_3 : Ref sig .tc := ⟨.hbm, 98, rfl⟩
abbrev main_call3_v11 : Ref sig .tc := ⟨.hbm, 99, rfl⟩
abbrev main_call3_v12 : Ref sig .tc := ⟨.hbm, 100, rfl⟩
abbrev main_call3_v13 : Ref sig .tc := ⟨.hbm, 101, rfl⟩
abbrev main_call3_cst : Ref sig .tc := ⟨.hbm, 102, rfl⟩
abbrev main_call3_v14 : Ref sig .tc := ⟨.hbm, 103, rfl⟩
abbrev main_v57 : Ref sig .tc := ⟨.hbm, 104, rfl⟩
abbrev main_call4_c : Ref sig .tc := ⟨.hbm, 105, rfl⟩
abbrev main_call4_v0 : Ref sig .tc := ⟨.hbm, 106, rfl⟩
abbrev main_call4_v1 : Ref sig .tc := ⟨.hbm, 107, rfl⟩
abbrev main_call4_c_0 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_call4_v5 : Ref sig .tc := ⟨.hbm, 112, rfl⟩
abbrev main_call4_c_1 : Ref sig .tc := ⟨.hbm, 113, rfl⟩
abbrev main_call4_c_2 : Ref sig .tc := ⟨.hbm, 114, rfl⟩
abbrev main_call4_v6 : Ref sig .tc := ⟨.hbm, 115, rfl⟩
abbrev main_call4_v7 : Ref sig .tc := ⟨.hbm, 116, rfl⟩
abbrev main_call4_v8 : Ref sig .tc := ⟨.hbm, 117, rfl⟩
abbrev main_call4_v9 : Ref sig .tc := ⟨.hbm, 118, rfl⟩
abbrev main_call4_v10 : Ref sig .tc := ⟨.hbm, 119, rfl⟩
abbrev main_call4_v11 : Ref sig .tc := ⟨.hbm, 120, rfl⟩
abbrev main_call4_c_3 : Ref sig .tc := ⟨.hbm, 121, rfl⟩
abbrev main_call4_v12 : Ref sig .tc := ⟨.hbm, 122, rfl⟩
abbrev main_call4_v13 : Ref sig .tc := ⟨.hbm, 123, rfl⟩
abbrev main_call4_c_4 : Ref sig .tc := ⟨.hbm, 124, rfl⟩
abbrev main_call4_v14 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_cst_17 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_c_18 : Ref sig .tc := ⟨.hbm, 134, rfl⟩
abbrev main_v65 : Ref sig .tc := ⟨.hbm, 135, rfl⟩
abbrev main_v66 : Ref sig .tc := ⟨.hbm, 136, rfl⟩

abbrev nD : Nat := 1
abbrev τ : Topo := Topo.v7x

variable {F : FTy → Type} [FloatOps F]
-- ==== Proof.Values.lean ====
/- What one vector subcore computes from its row of the packed input, as plain functions of that row. -/
module

public import proofs.«01_k».proof.Defs
public import Idealize.ShloMosaic.Lib.SparseCore.Ops
public import Idealize.ShloMosaic.Lib.Tactic
public import proofs.«01_k».proof.Proof.Gen.KernelIdeal
public import proofs.«01_k».proof.Proof.Gen.KernelIdeal.Skeleton

@[expose] public section

noncomputable section

namespace Cert.Proof.K

open Idealize.ShloMosaic Idealize.SL.Sem
open Cert.KernelIdeal Cert.KernelIdeal.Gen

variable {F : FTy → Type} [FloatOps F]

/-- The sixteen consecutive entries a group of lanes covers, starting at `o`. -/
def eV (o : ℕ) : IVec S16 32 :=
  addi (iota .scVector S16 32 [0] iota_S16_d0_w32_scVector) (broadcast S16 (BitVec.ofNat 32 o))

/-- Where column `c` of those entries lies in the packed row. -/
def ixV (o c : ℕ) : IVec S16 32 :=
  addi (muli (eV o) (broadcast S16 8#32)) (broadcast S16 (BitVec.ofNat 32 c))

/-- The subcore's own number, in every lane. -/
def bV (i : grid0.Coords) : IVec S16 32 :=
  addi (broadcast S16 0#32) (broadcast S16 (BitVec.ofNat 32 (i 1).val))

/-- Which lanes hold an entry selected for batch row `b`. -/
def liveV (b : IVec S16 32) (sel : FVec F S16 .f32) : IVec S16 1 := cmpi .eq (fptosi 32 sel) b

/-- The lanes of real entries (the hundred selected ones and the row of padding). -/
def maskV (o : ℕ) : IVec S16 1 := cmpi .sle (eV o) (broadcast S16 100#32)

/-- The score of each lane's entry: confidence times class score, zero for an unselected entry, minus
    one past the end. -/
def scV (o : ℕ) (live : IVec S16 1) (x4 x5 : FVec F S16 .f32) : FVec F S16 .f32 :=
  select live (mulf x4 x5)
    (select (maskV o) (broadcast S16 (Scalar.ofBits .f32 0x00000000#32))
      (broadcast S16 (Scalar.ofBits .f32 0xBF800000#32)))

/-- One coordinate of each lane's corner box: a row of four times a column of the conversion matrix. -/
def boxV (live : IVec S16 1) (x0 x1 x2 x3 m0 m1 m2 m3 : FVec F S16 .f32) : FVec F S16 .f32 :=
  select live (addf (addf (addf (mulf x0 m0) (mulf x1 m1)) (mulf x2 m2)) (mulf x3 m3))
    (broadcast S16 (Scalar.ofBits .f32 0x00000000#32))

/-- The class label of each lane's entry: zero, or minus one for an unselected entry. -/
def labV (live : IVec S16 1) : IVec S16 32 := select live (broadcast S16 0#32) (broadcast S16 4294967295#32)

/-- One step of the ranks: one more where entry `k`, of score `sk`, comes before the lane's own. -/
def rkV (o : ℕ) (s : FVec F S16 .f32) (acc k : IVec S16 32) (sk : FVec F S16 .f32) : IVec S16 32 :=
  addi acc (extui 32 (ori (cmpf .ogt sk s) (andi (cmpf .oeq sk s) (cmpi .slt k (eV o)))) natLt_1_32)

/-- The entry a trip of the ranking loop compares every lane with. -/
def kV (k : Fin k0_t1_loop.trips) : IVec S16 32 :=
  addi (broadcast S16 0#32) (broadcast S16 (Scf.iv 0#32 1#32 k))

/-- One more where the lane's score is positive. -/
def posV (acc : IVec S16 32) (s : FVec F S16 .f32) : IVec S16 32 :=
  addi acc (extui 32 (cmpf .ogt s (broadcast S16 (Scalar.ofBits .f32 0x00000000#32))) natLt_1_32)

/-- The lanes' counts added up, in every lane. -/
def totV (v : IVec S16 32) : IVec S16 32 :=
  addi (broadcast S16 0#32) (broadcast S16 (extractAt ![15] (scan .sum v) inpos_S16_p15))

end Cert.Proof.K
-- ==== Proof.Program.lean ====
/- The subcore's program, cut into the pieces it repeats: one group of lanes read, one group of lanes
   written. -/
module

public import proofs.«01_k».proof.Proof.Values

@[expose] public section

noncomputable section

namespace Cert.Proof.K

open Idealize.ShloMosaic Idealize.SL.Sem
open Cert.KernelIdeal Cert.KernelIdeal.Gen

variable {F : FTy → Type} [FloatOps F]

abbrev XM : Memref sig .scVector .vmem S1280 .f32 := Memref.whole cc0_scratch0
abbrev SM : Memref sig .scVector .vmem S128 .f32 := Memref.whole cc0_scratch1
abbrev BM : Memref sig .scVector .vmem S128x4 .f32 := Memref.whole cc0_scratch2
abbrev CM : Memref sig .scVector .vmem S128 .f32 := Memref.whole cc0_scratch3
abbrev LM : Memref sig .scVector .vmem S128 .i32 := Memref.whole cc0_scratch4
abbrev NM : Memref sig .scVector .vmem S16 .i32 := Memref.whole cc0_scratch5

/-- The programs of the subcore at coordinates `i`. -/
abbrev PG (F : FTy → Type) [FloatOps F] (i : grid0.Coords) (α : Type) :=
  Prog (TpuEff nD τ sig (Elt F) Λ₀ (.scVector ((i 0).castLE hcore0) ((i 1).castLE hsub0))) α

/-- One gather from the packed row: column `c` of the entries starting at `o`. -/
def gat (i : grid0.Coords) (h1 : k0_cond1 i = 1#1) (o c : ℕ) : PG F i (Vec F S16 .f32) := do
  have hw : k0_chk1 i (ixV o c) := (← Prog.lift (TpuEff.assume (k0_chk1 i (ixV o c)) (k0_chk1.dec i (ixV o c)))).down
  SparseCore.vectorLoadIdx XM ![ixV o c] (k0_idx1_inb i (ixV o c) hw h1) (View.loads_vmem h_S1280)

/-- What a group of lanes reads: its selector, its four box numbers, and the score it leaves. -/
structure Lanes (F : FTy → Type) where
  live : IVec S16 1
  x0 : Vec F S16 .f32
  x1 : Vec F S16 .f32
  x2 : Vec F S16 .f32
  x3 : Vec F S16 .f32
  s : FVec F S16 .f32

/-- Sixteen consecutive numbers of the packed row. -/
def sixteen (i : grid0.Coords) (p : ℕ) (hp : ∀ a, (![p] : Fin 1 → Nat) a + S16.size a ≤ S1280.size a) :
    PG F i (Vec F S16 .f32) :=
  Prog.lift (.load XM (Rect.unit (s := S1280) ![p] S16.size hp).toLoadRect (View.loadsAt_vmem h_S16))

/-- One group of lanes: read its selector and its six columns, leave its score. -/
def chunk (i : grid0.Coords) (h1 : k0_cond1 i = 1#1) (o p : ℕ)
    (hp : ∀ a, (![p] : Fin 1 → Nat) a + S16.size a ≤ S1280.size a)
    (ho : ∀ a, (![o] : Fin 1 → Nat) a + S16.size a ≤ S128.size a) : PG F i (Lanes F) := do
  let sel ← sixteen i p hp
  let x0 ← gat i h1 o 0
  let x1 ← gat i h1 o 1
  let x2 ← gat i h1 o 2
  let x3 ← gat i h1 o 3
  let x4 ← gat i h1 o 4
  let x5 ← gat i h1 o 5
  let _u : Vec F S16 .f32 ← Prog.lift (.load SM (Rect.unit (s := S128) ![o] S16.size ho).toLoadRect (View.loadsAt_vmem h_S16))
  Prog.lift (.store SM (Rect.unit (s := S128) ![o] S16.size ho) (scV o (liveV (bV i) sel) x4 x5) Finset.univ
    (View.stores_vmem_bits_univ h_S16 rfl) (.inl rfl))
  pure ⟨liveV (bV i) sel, x0, x1, x2, x3, scV o (liveV (bV i) sel) x4 x5⟩

/-- One column of a group's boxes, scattered to the rows its ranks name. -/
def putBox (i : grid0.Coords) (h1 : k0_cond1 i = 1#1) (o c : ℕ) (rank : IVec S16 32) (x : Vec F S16 .f32) :
    PG F i PUnit := do
  have hw : k0_chk45 i rank (broadcast S16 (BitVec.ofNat 32 c)) :=
    (← Prog.lift (TpuEff.assume (k0_chk45 i rank (broadcast S16 (BitVec.ofNat 32 c)))
      (k0_chk45.dec i rank (broadcast S16 (BitVec.ofNat 32 c))))).down
  SparseCore.vectorStoreIdx BM ![rank, broadcast S16 (BitVec.ofNat 32 c)] x (maskV o) false
    (k0_idx46_inb i rank _ hw h1) (View.stores_vmem_bits_univ h_S128x4 rfl)

/-- One group's scores, labels and boxes, scattered to the rows its ranks name. -/
def put (i : grid0.Coords) (h1 : k0_cond1 i = 1#1) (o : ℕ) (rank : IVec S16 32) (hr : k0_chk44 i rank)
    (m : Fin 4 → Fin 4 → Vec F S16 .f32) (l : Lanes F) : PG F i PUnit := do
  SparseCore.vectorStoreIdx CM ![rank] l.s (maskV o) false (k0_idx44_inb i rank hr h1) (View.stores_vmem_bits_univ h_S128 rfl)
  SparseCore.vectorStoreIdx LM ![rank] (labV l.live) (maskV o) false (k0_idx45_inb i rank hr h1) (View.stores_vmem_bits_univ h_S128 rfl)
  putBox i h1 o 0 rank (boxV l.live l.x0 l.x1 l.x2 l.x3 (m 0 0) (m 1 0) (m 2 0) (m 3 0))
  putBox i h1 o 1 rank (boxV l.live l.x0 l.x1 l.x2 l.x3 (m 0 1) (m 1 1) (m 2 1) (m 3 1))
  putBox i h1 o 2 rank (boxV l.live l.x0 l.x1 l.x2 l.x3 (m 0 2) (m 1 2) (m 2 2) (m 3 2))
  putBox i h1 o 3 rank (boxV l.live l.x0 l.x1 l.x2 l.x3 (m 0 3) (m 1 3) (m 2 3) (m 3 3))

/-- Seven groups' ranks. -/
abbrev Ranks := IVec S16 32 × IVec S16 32 × IVec S16 32 × IVec S16 32 × IVec S16 32 × IVec S16 32 × IVec S16 32

/-- The ranks once entry `k`, of score `sk`, is compared with every lane. -/
def rkStep (s0 s1 s2 s3 s4 s5 s6 : FVec F S16 .f32) (k : IVec S16 32) (sk : Vec F S16 .f32) (r : Ranks) : Ranks :=
  (rkV 0 s0 r.1 k sk, rkV 16 s1 r.2.1 k sk, rkV 32 s2 r.2.2.1 k sk, rkV 48 s3 r.2.2.2.1 k sk,
    rkV 64 s4 r.2.2.2.2.1 k sk, rkV 80 s5 r.2.2.2.2.2.1 k sk, rkV 96 s6 r.2.2.2.2.2.2 k sk)

/-- One trip of the ranking loop. -/
def trip (i : grid0.Coords) (h1 : k0_cond1 i = 1#1) (s0 s1 s2 s3 s4 s5 s6 : FVec F S16 .f32)
    (k : Fin k0_t1_loop.trips) (r : Ranks) : PG F i Ranks := do
  have hw : k0_chk43 i (kV k) := (← Prog.lift (TpuEff.assume (k0_chk43 i (kV k)) (k0_chk43.dec i (kV k)))).down
  let sk ← SparseCore.vectorLoadIdx SM ![kV k] (k0_idx43_inb i (kV k) hw h1) (View.loads_vmem h_S128)
  pure (rkStep s0 s1 s2 s3 s4 s5 s6 (kV k) sk r)

/-- The machine's check that a rank names a row of the buffers it is written to. -/
def ask (i : grid0.Coords) (rank : IVec S16 32) : PG F i (PLift (k0_chk44 i rank)) :=
  Prog.lift (TpuEff.assume (k0_chk44 i rank) (k0_chk44.dec i rank))

/-- The sixteen numbers of the conversion matrix, each in every lane. -/
def mats (i : grid0.Coords) : PG F i (Fin 4 → Fin 4 → Vec F S16 .f32) := do
  let a0 ← sixteen i 896 inb_S1280_S16_896
  let a1 ← sixteen i 912 inb_S1280_S16_912
  let a2 ← sixteen i 928 inb_S1280_S16_928
  let a3 ← sixteen i 944 inb_S1280_S16_944
  let b0 ← sixteen i 960 inb_S1280_S16_960
  let b1 ← sixteen i 976 inb_S1280_S16_976
  let b2 ← sixteen i 992 inb_S1280_S16_992
  let b3 ← sixteen i 1008 inb_S1280_S16_1008
  let c0 ← sixteen i 1024 inb_S1280_S16_1024
  let c1 ← sixteen i 1040 inb_S1280_S16_1040
  let c2 ← sixteen i 1056 inb_S1280_S16_1056
  let c3 ← sixteen i 1072 inb_S1280_S16_1072
  let d0 ← sixteen i 1088 inb_S1280_S16_1088
  let d1 ← sixteen i 1104 inb_S1280_S16_1104
  let d2 ← sixteen i 1120 inb_S1280_S16_1120
  let d3 ← sixteen i 1136 inb_S1280_S16_1136
  pure ![![a0, a1, a2, a3], ![b0, b1, b2, b3], ![c0, c1, c2, c3], ![d0, d1, d2, d3]]

/-- The row of the packed input that the subcore reads. -/
abbrev rowX (i : grid0.Coords) (h1 : k0_cond1 i = 1#1) : Memref sig .scVector .hbm S1280 .f32 :=
  ((Memref.whole main_v10_scv).slice (Rect.unit (s := S8x1280) (k0_off1 i) S1x1280.size (k0_off1_inb i h1)) (fun _ => rfl)).squeeze S1280 squeezes_S1x1280_S1280
/-- The rows of the four results that the subcore writes. -/
abbrev rowN (i : grid0.Coords) (h1 : k0_cond1 i = 1#1) : Memref sig .scVector .hbm S16 .i32 :=
  ((Memref.whole main_v11_0_scv).slice (Rect.unit (s := S8x16) (k0_off2 i) S1x16.size (k0_off2_inb i h1)) (fun _ => rfl)).squeeze S16 squeezes_S1x16_S16
abbrev rowB (i : grid0.Coords) (h1 : k0_cond1 i = 1#1) : Memref sig .scVector .hbm S128x4 .f32 :=
  ((Memref.whole main_v11_1_scv).slice (Rect.unit (s := S8x128x4) (k0_off3 i) S1x128x4.size (k0_off3_inb i h1)) (fun _ => rfl)).squeeze S128x4 squeezes_S1x128x4_S128x4
abbrev rowS (i : grid0.Coords) (h1 : k0_cond1 i = 1#1) : Memref sig .scVector .hbm S128 .f32 :=
  ((Memref.whole main_v11_2_scv).slice (Rect.unit (s := S8x128) (k0_off4 i) S1x128.size (k0_off4_inb i h1)) (fun _ => rfl)).squeeze S128 squeezes_S1x128_S128
abbrev rowC (i : grid0.Coords) (h1 : k0_cond1 i = 1#1) : Memref sig .scVector .hbm S128 .i32 :=
  ((Memref.whole main_v11_3_scv).slice (Rect.unit (s := S8x128) (k0_off4 i) S1x128.size (k0_off4_inb i h1)) (fun _ => rfl)).squeeze S128 squeezes_S1x128_S128

/-- The packed row brought in. -/
def fetch (i : grid0.Coords) (h1 : k0_cond1 i = 1#1) : PG F i PUnit := do
  Prog.lift (.enqueueDma (rowX i h1) (.here XM) (.dma cc0_scratch6.sem) ((View.wordExact_bits rfl).reshape _ _) (Memref.isWhole_whole cc0_scratch0).wordExact ⟨Or.inl rfl, trivial⟩)
  Prog.lift (.waitDma2 cc0_scratch6.sem (rowX i h1) XM ((View.wordExact_bits rfl).reshape _ _) (Memref.isWhole_whole cc0_scratch0).wordExact)

/-- The four results sent out. -/
def send (i : grid0.Coords) (h1 : k0_cond1 i = 1#1) (n : IVec S16 32) : PG F i PUnit := do
  let _u : Vec F S16 .i32 ← Prog.lift (.load NM (Rect.unit (s := S16) ![0] S16.size inb_S16_S16_0).toLoadRect (View.loadsAt_vmem h_S16))
  Prog.lift (.store NM (Rect.unit (s := S16) ![0] S16.size inb_S16_S16_0) n Finset.univ (View.stores_vmem_bits_univ h_S16 rfl) (.inl rfl))
  Prog.lift (.enqueueDma NM (.here (rowN i h1)) (.dma cc0_scratch7.sem) (Memref.isWhole_whole cc0_scratch5).wordExact ((View.wordExact_bits rfl).reshape _ _) ⟨Or.inl rfl, trivial⟩)
  Prog.lift (.enqueueDma BM (.here (rowB i h1)) (.dma cc0_scratch8.sem) (Memref.isWhole_whole cc0_scratch2).wordExact ((View.wordExact_bits rfl).reshape _ _) ⟨Or.inl rfl, trivial⟩)
  Prog.lift (.enqueueDma CM (.here (rowS i h1)) (.dma cc0_scratch9.sem) (Memref.isWhole_whole cc0_scratch3).wordExact ((View.wordExact_bits rfl).reshape _ _) ⟨Or.inl rfl, trivial⟩)
  Prog.lift (.enqueueDma LM (.here (rowC i h1)) (.dma cc0_scratch10.sem) (Memref.isWhole_whole cc0_scratch4).wordExact ((View.wordExact_bits rfl).reshape _ _) ⟨Or.inl rfl, trivial⟩)
  Prog.lift (.waitDma2 cc0_scratch7.sem NM (rowN i h1) (Memref.isWhole_whole cc0_scratch5).wordExact ((View.wordExact_bits rfl).reshape _ _))
  Prog.lift (.waitDma2 cc0_scratch8.sem BM (rowB i h1) (Memref.isWhole_whole cc0_scratch2).wordExact ((View.wordExact_bits rfl).reshape _ _))
  Prog.lift (.waitDma2 cc0_scratch9.sem CM (rowS i h1) (Memref.isWhole_whole cc0_scratch3).wordExact ((View.wordExact_bits rfl).reshape _ _))
  Prog.lift (.waitDma2 cc0_scratch10.sem LM (rowC i h1) (Memref.isWhole_whole cc0_scratch4).wordExact ((View.wordExact_bits rfl).reshape _ _))

/-- No rank counted yet. -/
def rk0 : Ranks := (broadcast S16 0#32, broadcast S16 0#32, broadcast S16 0#32, broadcast S16 0#32, broadcast S16 0#32, broadcast S16 0#32, broadcast S16 0#32)

/-- The seven groups' counts of positive scores. -/
def cntV (s0 s1 s2 s3 s4 s5 s6 : FVec F S16 .f32) : IVec S16 32 :=
  totV (posV (posV (posV (posV (posV (posV (posV (broadcast S16 0#32) s0) s1) s2) s3) s4) s5) s6)

/-- The whole work of a subcore that has a row. -/
def work (i : grid0.Coords) (h1 : k0_cond1 i = 1#1) : PG F i PUnit := do
  fetch i h1
  let m ← mats i
  let l0 ← chunk i h1 0 1152 inb_S1280_S16_1152 inb_S128_S16_0
  let l1 ← chunk i h1 16 1168 inb_S1280_S16_1168 inb_S128_S16_16
  let l2 ← chunk i h1 32 1184 inb_S1280_S16_1184 inb_S128_S16_32
  let l3 ← chunk i h1 48 1200 inb_S1280_S16_1200 inb_S128_S16_48
  let l4 ← chunk i h1 64 1216 inb_S1280_S16_1216 inb_S128_S16_64
  let l5 ← chunk i h1 80 1232 inb_S1280_S16_1232 inb_S128_S16_80
  let l6 ← chunk i h1 96 1248 inb_S1280_S16_1248 inb_S128_S16_96
  let r ← Scf.Loop.for k0_t1_loop (k0_t1_ok i h1) rk0 (trip i h1 l0.s l1.s l2.s l3.s l4.s l5.s l6.s)
  let h6 ← ask i r.2.2.2.2.2.2
  let h5 ← ask i r.2.2.2.2.2.1
  let h4 ← ask i r.2.2.2.2.1
  let h3 ← ask i r.2.2.2.1
  let h2 ← ask i r.2.2.1
  let h1' ← ask i r.2.1
  let h0 ← ask i r.1
  put i h1 0 r.1 h0.down m l0
  put i h1 16 r.2.1 h1'.down m l1
  put i h1 32 r.2.2.1 h2.down m l2
  put i h1 48 r.2.2.2.1 h3.down m l3
  put i h1 64 r.2.2.2.2.1 h4.down m l4
  put i h1 80 r.2.2.2.2.2.1 h5.down m l5
  put i h1 96 r.2.2.2.2.2.2 h6.down m l6
  send i h1 (cntV l0.s l1.s l2.s l3.s l4.s l5.s l6.s)

/-- The subcore's program over its own buffers. -/
abbrev body (i : grid0.Coords) : PG F i PUnit :=
  cc0__sc_body i (Memref.whole main_v10_scv) (Memref.isWhole_whole _) (Memref.whole main_v11_0_scv) (Memref.isWhole_whole _)
    (Memref.whole main_v11_1_scv) (Memref.isWhole_whole _) (Memref.whole main_v11_2_scv) (Memref.isWhole_whole _)
    (Memref.whole main_v11_3_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) cc0_scratch6 cc0_scratch7 cc0_scratch8 cc0_scratch9 cc0_scratch10

end Cert.Proof.K
-- ==== Proof.BodyEq.lean ====
/- The subcore's printed program is its pieces put together. -/
module

public import proofs.«01_k».proof.Proof.Program

@[expose] public section

noncomputable section

namespace Cert.Proof.K

open Idealize.ShloMosaic Idealize.SL.Sem
open Cert.KernelIdeal Cert.KernelIdeal.Gen

variable {F : FTy → Type} [FloatOps F]

set_option maxRecDepth 65536 in
set_option maxHeartbeats 4000000 in
/-- The printed program of a subcore that has a row is its work. -/
theorem body_work (i : grid0.Coords) (h1 : k0_cond1 i = 1#1) : body (F := F) i = work i h1 := by
  unfold body
  rw [cc0__sc_body_eq_skeleton, cc0__sc_body_skel, dif_pos h1, work]
  rw [k0_part1_eq_skeleton, k0_part1_skel]
  rw [fetch, mats, chunk]
  simp only [sixteen, gat, bind_assoc, pure_bind]
  repeat (apply bind_congr; intro _)
  rw [k0_part2_eq_skeleton, k0_part2_skel]
  simp only [sixteen, gat, bind_assoc, pure_bind]
  repeat (apply bind_congr; intro _)
  rw [k0_part3_eq_skeleton, k0_part3_skel]
  try rw [chunk]
  simp only [sixteen, gat, bind_assoc, pure_bind]
  repeat (apply bind_congr; intro _)
  rw [k0_part4_eq_skeleton, k0_part4_skel]
  try rw [chunk]
  simp only [sixteen, gat, bind_assoc, pure_bind]
  repeat (apply bind_congr; intro _)
  rw [k0_part5_eq_skeleton, k0_part5_skel]
  try rw [chunk]
  simp only [sixteen, gat, bind_assoc, pure_bind]
  repeat (apply bind_congr; intro _)
  rw [k0_part6_eq_skeleton, k0_part6_skel]
  try rw [chunk]
  simp only [sixteen, gat, bind_assoc, pure_bind]
  repeat (apply bind_congr; intro _)
  rw [k0_part7_eq_skeleton, k0_part7_skel]
  try rw [chunk]
  simp only [sixteen, gat, bind_assoc, pure_bind]
  repeat (apply bind_congr; intro _)
  rw [k0_part8_eq_skeleton, k0_part8_skel]
  try rw [chunk]
  simp only [sixteen, gat, bind_assoc, pure_bind]
  repeat (apply bind_congr; intro _)
  rw [k0_part9_eq_skeleton, k0_part9_skel]
  try rw [chunk]
  simp only [sixteen, gat, bind_assoc, pure_bind]
  repeat (apply bind_congr; intro _)
  rw [k0_part10_eq_skeleton, k0_part10_skel]
  try rw [chunk]
  simp only [sixteen, gat, bind_assoc, pure_bind]
  repeat (apply bind_congr; intro _)
  rw [k0_part11_eq_skeleton, k0_part11_skel]
  try rw [chunk]
  simp only [sixteen, gat, bind_assoc, pure_bind]
  repeat (apply bind_congr; intro _)
  rw [k0_part12_eq_skeleton, k0_part12_skel]
  try rw [chunk]
  simp only [sixteen, gat, bind_assoc, pure_bind]
  repeat (apply bind_congr; intro _)
  rw [k0_part13_eq_skeleton, k0_part13_skel]
  try rw [chunk]
  simp only [sixteen, gat, bind_assoc, pure_bind]
  repeat (apply bind_congr; intro _)
  rw [k0_part14_eq_skeleton, k0_part14_skel]
  simp only [sixteen, gat, bind_assoc, pure_bind]
  refine congr (congrArg _ ?_) (funext fun r => ?_)
  · refine congrArg (Scf.Loop.for k0_t1_loop _ rk0) (funext fun k => funext fun r => ?_)
    rfl
  rw [k0_part15_eq_skeleton, k0_part15_skel]
  unfold ask put putBox
  simp only [bind_assoc, pure_bind]
  iterate 29 (apply bind_congr; intro _)
  rw [k0_part16_eq_skeleton, k0_part16_skel]
  simp only [bind_assoc, pure_bind]
  iterate 28 (apply bind_congr; intro _)
  rw [k0_part17_eq_skeleton, k0_part17_skel]
  simp only [bind_assoc, pure_bind]
  iterate 20 (apply bind_congr; intro _)
  rw [k0_part18_eq_skeleton, k0_part18_skel]
  rw [send]
  simp only [bind_assoc, pure_bind]
  iterate 9 (apply bind_congr; intro _)
  rfl

/-- A subcore that has no row does nothing. -/
theorem body_idle (i : grid0.Coords) (h1 : ¬ k0_cond1 i = 1#1) : body (F := F) i = pure ⟨⟩ := by
  unfold body
  rw [cc0__sc_body_eq_skeleton, cc0__sc_body_skel, dif_neg h1]

end Cert.Proof.K
-- ==== Proof.Setup.lean ====
/- The launch as the SparseCore run theorem sees it: labels, the resource algebra, the subcores' coordinates. -/
module

public import proofs.«01_k».proof.Proof.BodyEq
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.K

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type}

/-- The pipeline's labels over this program's. -/
abbrev LP : Labels := Pipeline.Sig Λ₀ (Fin 0) fun p => (pcfgs (F := F) p).Adm
/-- This program's SparseCore launch. -/
abbrev KC : SparseCore.Cfg τ sig (LP (F := F)) 1 := sc (F := F)
abbrev DC [FloatOps F] : Defs nD τ sig (Elt F) (LP (F := F)) := Pipeline.defs pcfgs defs₀
abbrev 𝒱₀ : Variants := Variants.none
abbrev 𝒱 : Variants := 𝒱₀.lift
abbrev v₀ : 𝒱.V := Sum.inl none

/-- The ghost state: the handshakes' rounds and the transfers' counters. -/
abbrev UH : Type := URounds (GSem nD τ sig) ℕ
/-- The ghost state beside the call's own. -/
abbrev UU : Type := UH × Counters

/-- The call's own ghost state in the whole. -/
abbrev EH : Emb UH (MT nD τ sig (HIx 1) (Elt F) ℕ UU ℕ) := embL

/-- The SparseCore and the subcore at a pair of coordinates. -/
abbrev cV (L : grid0.Coords) : Fin τ.nSC := (L 0).castLE hcore0
abbrev jV (L : grid0.Coords) : Fin τ.nSub := (L 1).castLE hsub0
abbrev tV (d : Dev nD) (L : grid0.Coords) : Thread nD τ := V d (cV L) (jV L)

variable [FloatOps F]

/-- A program's statement on one subcore. -/
abbrev WP (d : Dev nD) (i : grid0.Coords) {α : Type} (p : PG F i α) (Q : α → sProp (MT nD τ sig (HIx 1) (Elt F) ℕ UU ℕ)) :
    sProp (MT nD τ sig (HIx 1) (Elt F) ℕ UU ℕ) :=
  wp frame (wpE (defs₀ (F := F)) 𝒱₀ (tV d i) none) Set.univ p Q

/-- A piece proved apart, used where it is called. -/
theorem wp_piece {d : Dev nD} {i : grid0.Coords} {α β : Type} {p : PG F i α} {k : α → PG F i β}
    {R : sProp (MT nD τ sig (HIx 1) (Elt F) ℕ UU ℕ)} {Q : α → sProp (MT nD τ sig (HIx 1) (Elt F) ℕ UU ℕ)}
    {Q' : β → sProp (MT nD τ sig (HIx 1) (Elt F) ℕ UU ℕ)} (h : R ⊢ WP d i p Q) :
    R ⊢ iprop((∀ a, Q a -∗ WP d i (k a) Q') -∗ WP d i (p >>= k) Q') := by
  unfold WP
  rw [wp_bind]
  exact h.trans (wp_wand _ _ _)

end Cert.Proof.K
-- ==== Proof.Rows.lean ====
/- What one subcore's results hold, entry by entry, as functions of its packed row. -/
module

public import proofs.«01_k».proof.Proof.Program

@[expose] public section

noncomputable section

namespace Cert.Proof.K

open Idealize.ShloMosaic Idealize.SL.Sem
open Cert.KernelIdeal Cert.KernelIdeal.Gen

variable {F : FTy → Type} [FloatOps F]

/-- Position `k` of a list of `n` numbers. -/
def at1 {n : ℕ} [NeZero n] (k : ℕ) : (⟨1, ![n]⟩ : Shape).Idx := fun a => match a with | ⟨0, _⟩ => Fin.ofNat n k
/-- Position `(r, q)` of a table of `n` rows of `m`. -/
def at2 {n m : ℕ} [NeZero n] [NeZero m] (r q : ℕ) : (⟨2, ![n, m]⟩ : Shape).Idx :=
  fun a => match a with | ⟨0, _⟩ => Fin.ofNat n r | ⟨1, _⟩ => Fin.ofNat m q

/-- The coordinate of a position in range. -/
theorem at1_val {n : ℕ} [NeZero n] {k : ℕ} (h : k < n) : (at1 (n := n) k 0).val = k := Nat.mod_eq_of_lt h

/-- Positions of one axis agree where their coordinates do. -/
theorem idx1_ext {n : ℕ} {x y : (⟨1, ![n]⟩ : Shape).Idx} (h : (x 0).val = (y 0).val) : x = y := by
  funext a
  obtain rfl : a = 0 := Fin.eq_zero a
  exact Fin.ext h

/-- A position is the one of its coordinate. -/
theorem at1_self {n : ℕ} [NeZero n] (x : (⟨1, ![n]⟩ : Shape).Idx) : at1 (x 0).val = x :=
  idx1_ext (at1_val (x 0).isLt)

/-- Positions of two axes agree where their coordinates do. -/
theorem idx2_ext {n m : ℕ} {x y : (⟨2, ![n, m]⟩ : Shape).Idx} (h0 : (x 0).val = (y 0).val) (h1 : (x 1).val = (y 1).val) :
    x = y := by
  funext a
  match a with
  | ⟨0, _⟩ => exact Fin.ext h0
  | ⟨1, _⟩ => exact Fin.ext h1

/-! ## Where the lanes read -/

theorem lane_lt (x : S16.Idx) : (x 0).val < 16 := (x 0).isLt

/-- A lane's entry number. -/
theorem eV_toNat {o : ℕ} (ho : o ≤ 1000) (x : S16.Idx) : (eV o x).toNat = o + (x 0).val := by
  have := lane_lt x
  simp only [eV, addi, IntOp.addi, broadcast, iota, List.foldl, BitVec.toNat_add, BitVec.toNat_ofNat]
  omega

/-- A lane's place of a column. -/
theorem ixV_toNat {o c : ℕ} (ho : o ≤ 1000) (hc : c ≤ 1000) (x : S16.Idx) : (ixV o c x).toNat = 8 * (o + (x 0).val) + c := by
  have := lane_lt x
  have h := eV_toNat ho x
  simp only [ixV, addi, muli, IntOp.addi, IntOp.muli, broadcast, BitVec.toNat_add, BitVec.toNat_mul, BitVec.toNat_ofNat, h]
  omega

/-- The candidates' loads are in range. -/
theorem chk1_ok (i : grid0.Coords) {o c : ℕ} (ho : o ≤ 96) (hc : c < 8) : k0_chk1 i (ixV o c) := by
  intro _ a x
  obtain rfl : a = 0 := Fin.eq_zero a
  have := lane_lt x
  show (ixV o c x).toNat < 1280
  rw [ixV_toNat (by omega) (by omega)]
  omega

/-- The loop's entry number in every lane. -/
theorem kV_eq (k : Fin k0_t1_loop.trips) : kV k = fun _ => BitVec.ofNat 32 k.val := by
  funext x
  simp only [kV, addi, IntOp.addi, broadcast, Scf.iv, BitVec.mul_one, BitVec.zero_add]

/-- The loop runs over the hundred and one entries. -/
theorem trips_eq : k0_t1_loop.trips = 101 := by decide

/-- The ranking loop's load is in range. -/
theorem chk43_ok (i : grid0.Coords) (k : Fin k0_t1_loop.trips) : k0_chk43 i (kV k) := by
  intro _ a x
  obtain rfl : a = 0 := Fin.eq_zero a
  have h := lt_of_lt_of_eq k.isLt trips_eq
  show (kV k x).toNat < 128
  rw [kV_eq]
  simp only [BitVec.toNat_ofNat]
  omega

/-! ## The entries -/

/-- Sixteen consecutive numbers of a packed row. -/
def sixV (f : Vec F S1280 .f32) (p : ℕ) : Vec F S16 .f32 := fun x => f (at1 (p + (x 0).val))
/-- One column of sixteen consecutive entries. -/
def colV (f : Vec F S1280 .f32) (o c : ℕ) : Vec F S16 .f32 := fun x => f (at1 (8 * (o + (x 0).val) + c))

/-- What the group of lanes starting at entry `o` reads and leaves, for the subcore numbered `b`. -/
def laneV (b : IVec S16 32) (f : Vec F S1280 .f32) (o : ℕ) : Lanes F :=
  ⟨liveV b (sixV f (1152 + o)), colV f o 0, colV f o 1, colV f o 2, colV f o 3,
    scV o (liveV b (sixV f (1152 + o))) (colV f o 4) (colV f o 5)⟩

/-- The sixteen numbers of the conversion matrix. -/
def matV (f : Vec F S1280 .f32) : Fin 4 → Fin 4 → Vec F S16 .f32 := fun k c => sixV f (896 + 16 * (4 * k.val + c.val))

/-- One column of a group's boxes. -/
def bxV (m : Fin 4 → Fin 4 → Vec F S16 .f32) (l : Lanes F) (q : Fin 4) : Vec F S16 .f32 :=
  boxV l.live l.x0 l.x1 l.x2 l.x3 (m 0 q) (m 1 q) (m 2 q) (m 3 q)

/-- Entry `e`'s score, label and box. -/
def scoreAt (b : IVec S16 32) (f : Vec F S1280 .f32) (e : ℕ) : F .f32 := (laneV b f (e / 16 * 16)).s (at1 (e % 16))
def labAt (b : IVec S16 32) (f : Vec F S1280 .f32) (e : ℕ) : BitVec 32 := labV (laneV b f (e / 16 * 16)).live (at1 (e % 16))
def boxAt (b : IVec S16 32) (f : Vec F S1280 .f32) (e : ℕ) (q : Fin 4) : F .f32 :=
  bxV (matV f) (laneV b f (e / 16 * 16)) q (at1 (e % 16))

/-- A group's ranks once the first `k` entries are compared with its lanes. -/
def rankV (b : IVec S16 32) (f : Vec F S1280 .f32) (o : ℕ) : ℕ → IVec S16 32
  | 0 => broadcast S16 0#32
  | k + 1 => rkV o (laneV b f o).s (rankV b f o k) (fun _ => BitVec.ofNat 32 k) (fun _ => scoreAt b f k)

/-- Entry `e`'s row in the results. -/
def rk (b : IVec S16 32) (f : Vec F S1280 .f32) (e : ℕ) : ℕ := (rankV b f (e / 16 * 16) 101 (at1 (e % 16))).toNat

/-- A rank is at most the number of comparisons made. -/
theorem rankV_le (b : IVec S16 32) (f : Vec F S1280 .f32) (o : ℕ) (x : S16.Idx) :
    ∀ k, k ≤ 1000 → (rankV b f o k x).toNat ≤ k
  | 0, _ => by simp [rankV, broadcast]
  | k + 1, hk => by
    have h := rankV_le b f o x k (by omega)
    simp only [rankV, rkV, addi, IntOp.addi, extui, BitVec.toNat_add, BitVec.toNat_setWidth]
    have h1 : ∀ v : BitVec 1, v.toNat ≤ 1 := fun v => by have := v.isLt; omega
    have := h1 (ori (cmpf .ogt (fun _ => scoreAt b f k) (laneV b f o).s)
      (andi (cmpf .oeq (fun _ => scoreAt b f k) (laneV b f o).s) (cmpi .slt (fun _ => BitVec.ofNat 32 k) (eV o))) x)
    omega

/-- The scatters to one axis are in range. -/
theorem chk44_ok (i : grid0.Coords) (b : IVec S16 32) (f : Vec F S1280 .f32) (o : ℕ) : k0_chk44 i (rankV b f o 101) := by
  have h : ∀ (a : Fin 1) (x : S16.Idx), ((![rankV b f o 101] : Fin 1 → IVec S16 32) a x).toNat < S128.size a := by
    intro a x
    obtain rfl : a = 0 := Fin.eq_zero a
    have := rankV_le b f o x 101 (by omega)
    show (rankV b f o 101 x).toNat < 128
    omega
  exact ⟨fun _ => h, fun _ => h⟩

/-- The scatters to two axes are in range. -/
theorem chk45_ok (i : grid0.Coords) (b : IVec S16 32) (f : Vec F S1280 .f32) (o : ℕ) {c : ℕ} (hc : c < 4) :
    k0_chk45 i (rankV b f o 101) (broadcast S16 (BitVec.ofNat 32 c)) := by
  intro _ a x
  match a with
  | ⟨0, _⟩ =>
    have := rankV_le b f o x 101 (by omega)
    show (rankV b f o 101 x).toNat < 128
    omega
  | ⟨1, _⟩ =>
    show (BitVec.ofNat 32 c).toNat < 4
    simp only [BitVec.toNat_ofNat]
    omega

/-- The mask keeps the hundred and one entries. -/
theorem maskV_iff {o : ℕ} (ho : o ≤ 1000) (x : S16.Idx) : maskV o x = 1#1 ↔ o + (x 0).val ≤ 100 := by
  have h := eV_toNat ho x
  have := lane_lt x
  have hi : (eV o x).toInt = (o + (x 0).val : ℕ) := by
    rw [BitVec.toInt_eq_toNat_of_lt (by omega), h]
  have hs : (eV o x).sle 100#32 = decide (o + (x 0).val ≤ 100) := by
    rw [BitVec.sle, hi, show (100#32 : BitVec 32).toInt = ((100 : ℕ) : ℤ) from by decide]
    simp only [Nat.cast_le]
  show BitVec.ofBool ((eV o x).sle 100#32) = 1#1 ↔ _
  rw [hs]
  by_cases hd : o + (x 0).val ≤ 100 <;> simp [hd]

/-! ## Scattered stores -/

section Store

variable {e : EltTy} {s : Shape} {d : Fin 1 → ℕ}

/-- A scattered store leaves alone what no stored lane names. -/
theorem storeIdx_miss (f : Vec F s e) (idxs : Fin s.rank → IVec ⟨1, d⟩ 32) (v : Vec F ⟨1, d⟩ e) (mask : IVec ⟨1, d⟩ 1)
    (h : ∀ a x, (idxs a x).toNat < s.size a) (j : s.Idx)
    (hj : ∀ y, mask y = 1 → ¬ ∀ a, (j a).val = (idxs a y).toNat) : storeIdx f idxs v mask false h j = f j := by
  unfold storeIdx
  generalize List.finRange (d 0) = l
  induction l generalizing f with
  | nil => rfl
  | cons k l ih =>
    rw [List.foldl_cons, ih]
    dsimp only
    split
    · next hm => exact if_neg (hj _ hm)
    · rfl

/-- A scattered store puts a lane's number where the lane names, if no other stored lane names it too. -/
theorem storeIdx_hit (f : Vec F s e) (idxs : Fin s.rank → IVec ⟨1, d⟩ 32) (v : Vec F ⟨1, d⟩ e) (mask : IVec ⟨1, d⟩ 1)
    (h : ∀ a x, (idxs a x).toNat < s.size a) (j : s.Idx) (x : (⟨1, d⟩ : Shape).Idx) (hx : mask x = 1)
    (hj : ∀ a, (j a).val = (idxs a x).toNat)
    (hu : ∀ y, mask y = 1 → (∀ a, (j a).val = (idxs a y).toNat) → y = x) : storeIdx f idxs v mask false h j = v x := by
  have hf : f j = v x ∨ ∃ k ∈ List.finRange (d 0), Shape.ofLane k = x := by
    refine .inr ⟨x 0, List.mem_finRange _, ?_⟩
    funext a
    obtain rfl : a = 0 := Fin.eq_zero a
    rfl
  unfold storeIdx
  revert hf
  generalize List.finRange (d 0) = l
  induction l generalizing f with
  | nil => intro hf; exact hf.elim id fun ⟨_, hk, _⟩ => absurd hk (List.not_mem_nil)
  | cons k l ih =>
    intro hf
    rw [List.foldl_cons]
    apply ih
    by_cases hk : Shape.ofLane k = x
    · left
      subst hk
      dsimp only
      rw [if_pos hx]
      exact if_pos hj
    · rcases hf with hf | ⟨k', hk', e'⟩
      · left
        dsimp only
        split
        · next hm => exact (if_neg fun hh => hk (hu _ hm hh)).trans hf
        · exact hf
      · right
        rcases List.mem_cons.mp hk' with rfl | hk'
        · exact absurd e' hk
        · exact ⟨k', hk', e'⟩

end Store

/-! ## The results, entry by entry -/

/-- No two real entries have the same row. -/
def RankInj (b : IVec S16 32) (f : Vec F S1280 .f32) : Prop :=
  ∀ e e', e ≤ 100 → e' ≤ 100 → rk b f e = rk b f e' → e = e'

/-- The first `n` entries are in their rows, of one column of numbers. -/
def Placed1 {φ : EltTy} (b : IVec S16 32) (f : Vec F S1280 .f32) (val : ℕ → Elt F φ) (n : ℕ) (g : Vec F S128 φ) : Prop :=
  RankInj b f → ∀ e < n, e ≤ 100 → g (at1 (rk b f e)) = val e

/-- The first `n` entries are in their rows, of column `q` of the boxes. -/
def Placed2 (b : IVec S16 32) (f : Vec F S1280 .f32) (q : Fin 4) (n : ℕ) (g : Vec F S128x4 .f32) : Prop :=
  RankInj b f → ∀ e < n, e ≤ 100 → g (at2 (rk b f e) q.val) = boxAt b f e q

/-- A rank is at most a hundred and one. -/
theorem rk_le (b : IVec S16 32) (f : Vec F S1280 .f32) (e : ℕ) : rk b f e ≤ 101 := rankV_le b f _ _ 101 (by omega)

/-- The lane of a group that holds entry `e`. -/
theorem rk_lane (b : IVec S16 32) (f : Vec F S1280 .f32) {o : ℕ} (ho : 16 ∣ o) (x : S16.Idx) :
    rk b f (o + (x 0).val) = (rankV b f o 101 x).toNat := by
  have hx := lane_lt x
  obtain ⟨J, rfl⟩ := ho
  have h1 : (16 * J + (x 0).val) / 16 * 16 = 16 * J := by omega
  have h2 : (16 * J + (x 0).val) % 16 = (x 0).val := by omega
  rw [rk, h1, h2, at1_self]

/-- A masked scatter puts one more group of entries in their rows. -/
theorem placed1_store {φ : EltTy} (i : grid0.Coords) (b : IVec S16 32) (f : Vec F S1280 .f32) (val : ℕ → Elt F φ) {o : ℕ} (ho : 16 ∣ o)
    (hn : o ≤ 96) (v : Vec F S16 φ) (hv : ∀ x, v x = val (o + (x 0).val)) (g : Vec F S128 φ)
    (h : ∀ a x, ((![rankV b f o 101] : Fin 1 → IVec S16 32) a x).toNat < S128.size a) (hp : Placed1 b f val o g) :
    Placed1 b f val (o + 16) (storeIdx g ![rankV b f o 101] v (maskV o) false h) := by
  intro hi e he h100
  have hr := rk_le b f e
  have hat : (at1 (n := 128) (rk b f e) 0).val = rk b f e := at1_val (by omega)
  by_cases hlt : e < o
  · rw [storeIdx_miss]
    · exact hp hi e hlt h100
    · intro y hy hh
      have h0 := hh 0
      have : rk b f e = rk b f (o + (y 0).val) := by rw [rk_lane b f ho, ← hat]; exact h0
      have := hi _ _ h100 ((maskV_iff (by omega) y).mp hy) this
      omega
  · have hx : ((at1 (n := 16) (e - o)) 0).val = e - o := at1_val (by omega)
    have he' : o + ((at1 (n := 16) (e - o)) 0).val = e := by omega
    rw [storeIdx_hit _ _ _ _ _ _ (at1 (n := 16) (e - o))]
    · rw [hv, he']
    · exact (maskV_iff (by omega) _).mpr (by omega)
    · intro a
      obtain rfl : a = 0 := Fin.eq_zero a
      refine hat.trans ?_
      show _ = (rankV b f o 101 (at1 (n := 16) (e - o))).toNat
      rw [← rk_lane b f ho, he']
    · intro y hy hh
      have h0 := hh 0
      have : rk b f e = rk b f (o + (y 0).val) := by rw [rk_lane b f ho, ← hat]; exact h0
      have := hi _ _ h100 ((maskV_iff (by omega) y).mp hy) this
      exact idx1_ext (by omega)

/-- A lane's box is its entry's. -/
theorem boxAt_lane (b : IVec S16 32) (f : Vec F S1280 .f32) (q : Fin 4) {o : ℕ} (ho : 16 ∣ o) (x : S16.Idx) :
    bxV (matV f) (laneV b f o) q x = boxAt b f (o + (x 0).val) q := by
  have hx := lane_lt x
  obtain ⟨J, rfl⟩ := ho
  have h1 : (16 * J + (x 0).val) / 16 * 16 = 16 * J := by omega
  have h2 : (16 * J + (x 0).val) % 16 = (x 0).val := by omega
  rw [boxAt, h1, h2, at1_self]

/-- A lane's score is its entry's. -/
theorem scoreAt_lane (b : IVec S16 32) (f : Vec F S1280 .f32) {o : ℕ} (ho : 16 ∣ o) (x : S16.Idx) :
    (laneV b f o).s x = scoreAt b f (o + (x 0).val) := by
  have hx := lane_lt x
  obtain ⟨J, rfl⟩ := ho
  have h1 : (16 * J + (x 0).val) / 16 * 16 = 16 * J := by omega
  have h2 : (16 * J + (x 0).val) % 16 = (x 0).val := by omega
  rw [scoreAt, h1, h2, at1_self]

/-- A lane's label is its entry's. -/
theorem labAt_lane (b : IVec S16 32) (f : Vec F S1280 .f32) {o : ℕ} (ho : 16 ∣ o) (x : S16.Idx) :
    labV (laneV b f o).live x = labAt b f (o + (x 0).val) := by
  have hx := lane_lt x
  obtain ⟨J, rfl⟩ := ho
  have h1 : (16 * J + (x 0).val) / 16 * 16 = 16 * J := by omega
  have h2 : (16 * J + (x 0).val) % 16 = (x 0).val := by omega
  rw [labAt, h1, h2, at1_self]

/-- A column of a group's boxes stored puts that column's sixteen entries in their rows … -/
theorem placed2_store (i : grid0.Coords) (b : IVec S16 32) (f : Vec F S1280 .f32) (q : Fin 4) {o : ℕ} (ho : 16 ∣ o)
    (hn : o ≤ 96) (v : Vec F S16 .f32) (hv : ∀ x, v x = boxAt b f (o + (x 0).val) q) (g : Vec F S128x4 .f32)
    (h : ∀ a x, ((![rankV b f o 101, broadcast S16 (BitVec.ofNat 32 q.val)] : Fin 2 → IVec S16 32) a x).toNat < S128x4.size a)
    (hp : Placed2 b f q o g) :
    Placed2 b f q (o + 16)
      (storeIdx g ![rankV b f o 101, broadcast S16 (BitVec.ofNat 32 q.val)] v (maskV o) false h) := by
  intro hi e he h100
  have hr := rk_le b f e
  have hat : (at2 (n := 128) (m := 4) (rk b f e) q.val 0).val = rk b f e := Nat.mod_eq_of_lt (by omega)
  have hat1 : (at2 (n := 128) (m := 4) (rk b f e) q.val 1).val = q.val := Nat.mod_eq_of_lt q.isLt
  by_cases hlt : e < o
  · rw [storeIdx_miss]
    · exact hp hi e hlt h100
    · intro y hy hh
      have h0 := hh 0
      have : rk b f e = rk b f (o + (y 0).val) := by rw [rk_lane b f ho, ← hat]; exact h0
      have := hi _ _ h100 ((maskV_iff (by omega) y).mp hy) this
      omega
  · have hx : ((at1 (n := 16) (e - o)) 0).val = e - o := at1_val (by omega)
    have he' : o + ((at1 (n := 16) (e - o)) 0).val = e := by omega
    rw [storeIdx_hit _ _ _ _ _ _ (at1 (n := 16) (e - o))]
    · rw [hv, he']
    · exact (maskV_iff (by omega) _).mpr (by omega)
    · intro a
      match a with
      | ⟨0, _⟩ =>
        refine hat.trans ?_
        show _ = (rankV b f o 101 (at1 (n := 16) (e - o))).toNat
        rw [← rk_lane b f ho, he']
      | ⟨1, _⟩ =>
        refine hat1.trans ?_
        show _ = (BitVec.ofNat 32 q.val).toNat
        rw [BitVec.toNat_ofNat]
        omega
    · intro y hy hh
      have h0 := hh 0
      have : rk b f e = rk b f (o + (y 0).val) := by rw [rk_lane b f ho, ← hat]; exact h0
      have := hi _ _ h100 ((maskV_iff (by omega) y).mp hy) this
      exact idx1_ext (by omega)

/-- … and leaves the other columns alone. -/
theorem placed2_other (b : IVec S16 32) (f : Vec F S1280 .f32) (q c : Fin 4) (hqc : q ≠ c) {o n : ℕ} (v : Vec F S16 .f32)
    (g : Vec F S128x4 .f32)
    (h : ∀ a x, ((![rankV b f o 101, broadcast S16 (BitVec.ofNat 32 c.val)] : Fin 2 → IVec S16 32) a x).toNat < S128x4.size a)
    (hp : Placed2 b f q n g) :
    Placed2 b f q n
      (storeIdx g ![rankV b f o 101, broadcast S16 (BitVec.ofNat 32 c.val)] v (maskV o) false h) := by
  intro hi e he h100
  rw [storeIdx_miss]
  · exact hp hi e he h100
  · intro y _ hh
    have h1 : (at2 (n := 128) (m := 4) (rk b f e) q.val 1).val = (BitVec.ofNat 32 c.val).toNat := hh 1
    rw [show (at2 (n := 128) (m := 4) (rk b f e) q.val 1).val = q.val from Nat.mod_eq_of_lt q.isLt, BitVec.toNat_ofNat] at h1
    exact hqc (Fin.ext (by omega))

end Cert.Proof.K
-- ==== Proof.Pieces.lean ====
/- What each piece of the subcore's program does, proved once each. -/
module

public import proofs.«01_k».proof.Proof.Setup
public import proofs.«01_k».proof.Proof.Rows

@[expose] public section

noncomputable section

namespace Cert.Proof.K

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 1) (Elt F) ℕ UU ℕ

variable (d : Dev nD) (i : grid0.Coords)

/-- The subcore's scratch buffers, held whole. -/
abbrev xP (f : Vec F S1280 .f32) : sProp 𝕄 := XM.view.loc (tV d i) ↦{fullShare} f
abbrev sP (f : Vec F S128 .f32) : sProp 𝕄 := SM.view.loc (tV d i) ↦{fullShare} f
abbrev bP (f : Vec F S128x4 .f32) : sProp 𝕄 := BM.view.loc (tV d i) ↦{fullShare} f
abbrev cP (f : Vec F S128 .f32) : sProp 𝕄 := CM.view.loc (tV d i) ↦{fullShare} f
abbrev lP (f : Vec F S128 .i32) : sProp 𝕄 := LM.view.loc (tV d i) ↦{fullShare} f
abbrev nP (f : Vec F S16 .i32) : sProp 𝕄 := NM.view.loc (tV d i) ↦{fullShare} f

/-! ## What a subcore reads -/

theorem readAt_sixteen (f : Vec F S1280 .f32) (p : ℕ) (hp : ∀ a, (![p] : Fin 1 → Nat) a + S16.size a ≤ S1280.size a) :
    XM.view.readAt (Elt F) (Rect.unit (s := S1280) ![p] S16.size hp).toLoadRect f = sixV f p := by
  have h0 : p + 16 ≤ 1280 := hp 0
  funext x
  have hx := lane_lt x
  refine congrArg f (idx1_ext ?_)
  rw [at1_val (by omega)]
  show p + 1 * (x 0).val = _
  omega

/-- An indexed load of a column of the candidates. -/
theorem loadIdx_col (f : Vec F S1280 .f32) {o c : ℕ} (ho : o ≤ 96) (hc : c < 8)
    (h : ∀ a x, ((![ixV o c] : Fin 1 → IVec S16 32) a x).toNat < S1280.size a) :
    loadIdx f ![ixV o c] h = colV f o c := by
  funext x
  have hx := lane_lt x
  refine congrArg f (idx1_ext ?_)
  rw [at1_val (by omega)]
  exact ixV_toNat (by omega) (by omega) x

/-- The row's sixteen consecutive numbers. -/
theorem sixteen_wp (f : Vec F S1280 .f32) (p : ℕ) (hp : ∀ a, (![p] : Fin 1 → Nat) a + S16.size a ≤ S1280.size a) :
    xP d i f ⊢ WP d i (sixteen i p hp) fun r => iprop(⌜r = sixV f p⌝ ∗ xP d i f) := by
  unfold sixteen WP
  iintro H
  sl_exec
  sl_step
  isplitr
  · ipureintro; exact readAt_sixteen f p hp
  · iexact H

/-- One gathered column. -/
theorem gat_wp (f : Vec F S1280 .f32) (h1 : k0_cond1 i = 1#1) {o c : ℕ} (ho : o ≤ 96) (hc : c < 8) :
    xP d i f ⊢ WP d i (gat i h1 o c) fun r => iprop(⌜r = colV f o c⌝ ∗ xP d i f) := by
  have h : k0_chk1 i (ixV o c) := chk1_ok i ho hc
  unfold gat SparseCore.vectorLoadIdx WP
  iintro H
  sl_exec
  sl_step
  isplitr
  · ipureintro
    rw [show View.readAt (Elt F) XM.view (LoadRect.whole S1280) f = f from Memref.readAt_whole (Elt F) cc0_scratch0 f]
    exact loadIdx_col f ho hc _
  · iexact H

/-- The scores of the first `n` entries are in the score buffer. -/
def Filled (b : IVec S16 32) (f : Vec F S1280 .f32) (n : ℕ) (g : Vec F S128 .f32) : Prop :=
  ∀ e < n, g (at1 e) = scoreAt b f e

/-- One more group of scores stored. -/
theorem filled_store (b : IVec S16 32) (f : Vec F S1280 .f32) {o : ℕ} (hd : 16 ∣ o) (ho : o ≤ 96) (g : Vec F S128 .f32)
    (hb : ∀ a, (![o] : Fin 1 → Nat) a + S16.size a ≤ S128.size a) (h : Filled b f o g) :
    Filled b f (o + 16) ((SM.access (Rect.unit (s := S128) ![o] S16.size hb)).write (Elt F) g (laneV b f o).s Finset.univ) := by
  intro e he
  by_cases hlt : e < o
  · refine (View.write_of_not_mem _ _ _ fun hm => ?_).trans (h e hlt)
    obtain ⟨x, -, hx⟩ := Finset.mem_map.mp hm
    have h2 : (at1 (n := 128) e 0).val = e := at1_val (by omega)
    have h1 : o + 1 * (x 0).val = e := (congrArg (fun j : S128.Idx => (j 0).val) hx).trans h2
    omega
  · have hx : (at1 (n := 16) (e - o) 0).val = e - o := at1_val (by omega)
    have hj : at1 (n := 128) e = (SM.access (Rect.unit (s := S128) ![o] S16.size hb)).emb (at1 (n := 16) (e - o)) := by
      refine idx1_ext ?_
      rw [at1_val (by omega)]
      show _ = o + 1 * (at1 (n := 16) (e - o) 0).val
      omega
    rw [hj]
    refine (View.write_emb_of_mem _ _ (Finset.mem_univ _)).trans ?_
    show (laneV b f o).s _ = _
    rw [scoreAt_lane b f hd, hx, show o + (e - o) = e by omega]

/-- One group of lanes read, its scores stored. -/
theorem chunk_wp (f : Vec F S1280 .f32) (h1 : k0_cond1 i = 1#1) {o p : ℕ} (hd : 16 ∣ o) (ho : o ≤ 96) (hpo : p = 1152 + o)
    (hp : ∀ a, (![p] : Fin 1 → Nat) a + S16.size a ≤ S1280.size a)
    (hb : ∀ a, (![o] : Fin 1 → Nat) a + S16.size a ≤ S128.size a) (g : Vec F S128 .f32) (hg : Filled (bV i) f o g) :
    iprop(xP d i f ∗ sP d i g) ⊢ WP d i (chunk i h1 o p hp hb) fun r =>
      iprop(⌜r = laneV (bV i) f o⌝ ∗ xP d i f ∗ ∃ g', ⌜Filled (bV i) f (o + 16) g'⌝ ∗ sP d i g') := by
  subst hpo
  unfold chunk
  iintro ⟨Hx, Hs⟩
  iapply (wp_piece (sixteen_wp d i f (1152 + o) hp)) $$ Hx
  iintro %sel ⟨%hsel, Hx⟩
  subst hsel
  iapply (wp_piece (gat_wp d i f h1 ho (c := 0) (by decide))) $$ Hx
  iintro %x0 ⟨%hx0, Hx⟩
  iapply (wp_piece (gat_wp d i f h1 ho (c := 1) (by decide))) $$ Hx
  iintro %x1 ⟨%hx1, Hx⟩
  iapply (wp_piece (gat_wp d i f h1 ho (c := 2) (by decide))) $$ Hx
  iintro %x2 ⟨%hx2, Hx⟩
  iapply (wp_piece (gat_wp d i f h1 ho (c := 3) (by decide))) $$ Hx
  iintro %x3 ⟨%hx3, Hx⟩
  iapply (wp_piece (gat_wp d i f h1 ho (c := 4) (by decide))) $$ Hx
  iintro %x4 ⟨%hx4, Hx⟩
  iapply (wp_piece (gat_wp d i f h1 ho (c := 5) (by decide))) $$ Hx
  iintro %x5 ⟨%hx5, Hx⟩
  subst hx0 hx1 hx2 hx3 hx4 hx5
  unfold WP
  sl_exec
  sl_step
  isplitr
  · ipureintro; rfl
  isplitl [Hx]
  · iexact Hx
  iexists _
  isplitr
  · ipureintro; exact filled_store (bV i) f hd ho g hb hg
  · iexact Hs

/-- The conversion matrix read. -/
theorem mats_wp (f : Vec F S1280 .f32) : xP d i f ⊢ WP d i (mats i) fun r => iprop(⌜r = matV f⌝ ∗ xP d i f) := by
  unfold mats
  iintro Hx
  iapply (wp_piece (sixteen_wp d i f 896 _)) $$ Hx
  iintro %a0 ⟨%h0, Hx⟩
  iapply (wp_piece (sixteen_wp d i f 912 _)) $$ Hx
  iintro %a1 ⟨%h1, Hx⟩
  iapply (wp_piece (sixteen_wp d i f 928 _)) $$ Hx
  iintro %a2 ⟨%h2, Hx⟩
  iapply (wp_piece (sixteen_wp d i f 944 _)) $$ Hx
  iintro %a3 ⟨%h3, Hx⟩
  iapply (wp_piece (sixteen_wp d i f 960 _)) $$ Hx
  iintro %b0 ⟨%h4, Hx⟩
  iapply (wp_piece (sixteen_wp d i f 976 _)) $$ Hx
  iintro %b1 ⟨%h5, Hx⟩
  iapply (wp_piece (sixteen_wp d i f 992 _)) $$ Hx
  iintro %b2 ⟨%h6, Hx⟩
  iapply (wp_piece (sixteen_wp d i f 1008 _)) $$ Hx
  iintro %b3 ⟨%h7, Hx⟩
  iapply (wp_piece (sixteen_wp d i f 1024 _)) $$ Hx
  iintro %c0 ⟨%h8, Hx⟩
  iapply (wp_piece (sixteen_wp d i f 1040 _)) $$ Hx
  iintro %c1 ⟨%h9, Hx⟩
  iapply (wp_piece (sixteen_wp d i f 1056 _)) $$ Hx
  iintro %c2 ⟨%h10, Hx⟩
  iapply (wp_piece (sixteen_wp d i f 1072 _)) $$ Hx
  iintro %c3 ⟨%h11, Hx⟩
  iapply (wp_piece (sixteen_wp d i f 1088 _)) $$ Hx
  iintro %d0 ⟨%h12, Hx⟩
  iapply (wp_piece (sixteen_wp d i f 1104 _)) $$ Hx
  iintro %d1 ⟨%h13, Hx⟩
  iapply (wp_piece (sixteen_wp d i f 1120 _)) $$ Hx
  iintro %d2 ⟨%h14, Hx⟩
  iapply (wp_piece (sixteen_wp d i f 1136 _)) $$ Hx
  iintro %d3 ⟨%h15, Hx⟩
  unfold WP
  sl_step
  isplitr
  · ipureintro
    subst h0 h1 h2 h3 h4 h5 h6 h7 h8 h9 h10 h11 h12 h13 h14 h15
    funext k c
    fin_cases k <;> fin_cases c <;> rfl
  · iexact Hx

/-! ## The ranking loop -/

/-- The seven groups' ranks once the first `k` entries are compared. -/
def ranksV (b : IVec S16 32) (f : Vec F S1280 .f32) (k : ℕ) : Ranks :=
  (rankV b f 0 k, rankV b f 16 k, rankV b f 32 k, rankV b f 48 k, rankV b f 64 k, rankV b f 80 k, rankV b f 96 k)

/-- The ranking loop's load gives one entry's score in every lane. -/
theorem loadIdx_score (b : IVec S16 32) (f : Vec F S1280 .f32) (g : Vec F S128 .f32) (hg : Filled b f 112 g)
    (k : Fin k0_t1_loop.trips) (h : ∀ a x, ((![kV k] : Fin 1 → IVec S16 32) a x).toNat < S128.size a) :
    loadIdx g ![kV k] h = fun _ => scoreAt b f k.val := by
  have hk := lt_of_lt_of_eq k.isLt trips_eq
  funext x
  refine (congrArg g (idx1_ext ?_)).trans (hg k.val (by omega))
  rw [at1_val (by omega)]
  show (kV k x).toNat = _
  rw [kV_eq, BitVec.toNat_ofNat]
  omega

/-- One trip of the ranking loop. -/
theorem trip_wp (f : Vec F S1280 .f32) (g : Vec F S128 .f32) (hg : Filled (bV i) f 112 g) (h1 : k0_cond1 i = 1#1)
    (k : Fin k0_t1_loop.trips) :
    sP d i g ⊢ WP d i (trip i h1 (laneV (bV i) f 0).s (laneV (bV i) f 16).s (laneV (bV i) f 32).s (laneV (bV i) f 48).s
        (laneV (bV i) f 64).s (laneV (bV i) f 80).s (laneV (bV i) f 96).s k (ranksV (bV i) f k.val)) fun r =>
      iprop(⌜r = ranksV (bV i) f (k.val + 1)⌝ ∗ sP d i g) := by
  have h : k0_chk43 i (kV k) := chk43_ok i k
  unfold trip SparseCore.vectorLoadIdx WP
  iintro H
  sl_exec
  sl_step
  isplitr
  · ipureintro
    rw [show View.readAt (Elt F) SM.view (LoadRect.whole S128) g = g from Memref.readAt_whole (Elt F) cc0_scratch1 g]
    rw [loadIdx_score (bV i) f g hg k, kV_eq]
    rfl
  · iexact H

/-- The whole ranking loop. -/
theorem loop_wp (f : Vec F S1280 .f32) (g : Vec F S128 .f32) (hg : Filled (bV i) f 112 g) (h1 : k0_cond1 i = 1#1) :
    sP d i g ⊢ WP d i (Scf.Loop.for k0_t1_loop (k0_t1_ok i h1) rk0 (trip i h1 (laneV (bV i) f 0).s (laneV (bV i) f 16).s
        (laneV (bV i) f 32).s (laneV (bV i) f 48).s (laneV (bV i) f 64).s (laneV (bV i) f 80).s (laneV (bV i) f 96).s)) fun r =>
      iprop(⌜r = ranksV (bV i) f 101⌝ ∗ sP d i g) := by
  unfold WP Scf.Loop.for
  iintro H
  iapply (Scf.wp_for frame (wpE (defs₀ (F := F)) 𝒱₀ (tV d i) none) Set.univ k0_t1_loop.lb k0_t1_loop.ub k0_t1_loop.st
    (k0_t1_ok i h1) rk0 _ (fun k r => iprop(⌜r = ranksV (bV i) f k⌝ ∗ sP d i g)) ?_)
  · intro k r
    iintro ⟨%hr, H⟩
    subst hr
    iapply (trip_wp d i f g hg h1 k) $$ H
  · isplitl [H]
    · isplitr
      · ipureintro; rfl
      · iexact H
    · iintro %r ⟨%hr, H⟩
      isplitr
      · ipureintro; exact hr.trans (congrArg (ranksV (bV i) f) trips_eq)
      · iexact H

/-- The check on a group's ranks. -/
theorem ask_wp (R : sProp 𝕄) (f : Vec F S1280 .f32) (o : ℕ) : R ⊢ WP d i (ask i (rankV (bV i) f o 101)) fun _ => R := by
  have h := chk44_ok i (bV i) f o
  unfold ask WP
  iintro H
  sl_exec
  sl_step
  iexact H

/-! ## The results stored -/

/-- The first `n` entries are in their rows, of all four columns of the boxes. -/
def Placed4 (b : IVec S16 32) (f : Vec F S1280 .f32) (n : ℕ) (g : Vec F S128x4 .f32) : Prop := ∀ q, Placed2 b f q n g

/-- A whole buffer rewritten from its own contents. -/
theorem whole_store {κ : Kind} (r : Ref sig κ) (g : r.ty.Contents (Elt F)) (G : r.ty.Contents (Elt F) → r.ty.Contents (Elt F)) :
    (Memref.whole r).view.writes (Elt F) g
      [⟨Rect.whole _, G ((Memref.whole r).view.readAt (Elt F) (LoadRect.whole _) g)⟩] = G g := by
  rw [View.writes_singleton, Memref.readAt_whole]
  exact Memref.write_access_whole_univ (Elt F) r g (G g)

/-- One column of a group's boxes stored. -/
theorem putBox_wp (f : Vec F S1280 .f32) (h1 : k0_cond1 i = 1#1) {o c : ℕ} (hc : c < 4) (x : Vec F S16 .f32)
    (g : Vec F S128x4 .f32) :
    bP d i g ⊢ WP d i (putBox i h1 o c (rankV (bV i) f o 101) x) fun _ =>
      bP d i (storeIdx g ![rankV (bV i) f o 101, broadcast S16 (BitVec.ofNat 32 c)] x (maskV o) false
        (k0_idx46_inb i _ _ (chk45_ok i (bV i) f o hc) h1)) := by
  have h := chk45_ok i (bV i) f o hc
  unfold putBox SparseCore.vectorStoreIdx WP
  iintro H
  sl_exec
  sl_step
  iapply (Entails.of_eq (congrArg (bP d i) (whole_store cc0_scratch2 g fun g => storeIdx g ![rankV (bV i) f o 101, broadcast S16 (BitVec.ofNat 32 c)] x (maskV o) false (k0_idx46_inb i _ _ (chk45_ok i (bV i) f o hc) h1)))) $$ H

/-- A group's scores stored. -/
theorem putC_wp (f : Vec F S1280 .f32) (o : ℕ) (h : ∀ a x, ((![rankV (bV i) f o 101] : Fin 1 → IVec S16 32) a x).toNat < S128.size a)
    (x : Vec F S16 .f32) (g : Vec F S128 .f32) :
    cP d i g ⊢ WP d i (SparseCore.vectorStoreIdx CM ![rankV (bV i) f o 101] x (maskV o) false h (View.stores_vmem_bits_univ h_S128 rfl)) fun _ =>
      cP d i (storeIdx g ![rankV (bV i) f o 101] x (maskV o) false h) := by
  unfold SparseCore.vectorStoreIdx WP
  iintro H
  sl_exec
  sl_step
  iapply (Entails.of_eq (congrArg (cP d i) (whole_store cc0_scratch3 g fun g => storeIdx g ![rankV (bV i) f o 101] x (maskV o) false h))) $$ H

/-- A group's labels stored. -/
theorem putL_wp (f : Vec F S1280 .f32) (o : ℕ) (h : ∀ a x, ((![rankV (bV i) f o 101] : Fin 1 → IVec S16 32) a x).toNat < S128.size a)
    (x : Vec F S16 .i32) (g : Vec F S128 .i32) :
    lP d i g ⊢ WP d i (SparseCore.vectorStoreIdx LM ![rankV (bV i) f o 101] x (maskV o) false h (View.stores_vmem_bits_univ h_S128 rfl)) fun _ =>
      lP d i (storeIdx g ![rankV (bV i) f o 101] x (maskV o) false h) := by
  unfold SparseCore.vectorStoreIdx WP
  iintro H
  sl_exec
  sl_step
  iapply (Entails.of_eq (congrArg (lP d i) (whole_store cc0_scratch4 g fun g => storeIdx g ![rankV (bV i) f o 101] x (maskV o) false h))) $$ H

/-- One column of a group's boxes stored: that column has sixteen more entries, the others what they had. -/
theorem putCol_wp (f : Vec F S1280 .f32) (h1 : k0_cond1 i = 1#1) {o : ℕ} (hd : 16 ∣ o) (ho : o ≤ 96) (q : Fin 4)
    (g : Vec F S128x4 .f32) (n : Fin 4 → ℕ) (hq : n q = o) (hg : ∀ c, Placed2 (bV i) f c (n c) g) :
    bP d i g ⊢ WP d i (putBox i h1 o q.val (rankV (bV i) f o 101) (bxV (matV f) (laneV (bV i) f o) q)) fun _ =>
      iprop(∃ g', ⌜∀ c, Placed2 (bV i) f c (Function.update n q (o + 16) c) g'⌝ ∗ bP d i g') := by
  refine (putBox_wp d i f h1 q.isLt _ g).trans (wp_mono frame _ _ fun _ => ?_)
  iintro H
  iexists (storeIdx g ![rankV (bV i) f o 101, broadcast S16 (BitVec.ofNat 32 q.val)] (bxV (matV f) (laneV (bV i) f o) q)
    (maskV o) false (k0_idx46_inb i _ _ (chk45_ok i (bV i) f o q.isLt) h1))
  isplitr
  · ipureintro
    intro c
    by_cases hc : c = q
    · subst hc
      rw [Function.update_self]
      exact placed2_store i (bV i) f c hd ho _ (boxAt_lane (bV i) f c hd) g
        (k0_idx46_inb i _ _ (chk45_ok i (bV i) f o c.isLt) h1) (hq ▸ hg c)
    · rw [Function.update_of_ne hc]
      exact placed2_other (bV i) f c q hc _ g (k0_idx46_inb i _ _ (chk45_ok i (bV i) f o q.isLt) h1) (hg c)
  · iexact H

/-- A group's results stored: sixteen more entries are in their rows. -/
theorem put_wp (f : Vec F S1280 .f32) (h1 : k0_cond1 i = 1#1) {o : ℕ} (hd : 16 ∣ o) (ho : o ≤ 96)
    (hr : k0_chk44 i (rankV (bV i) f o 101)) (c : Vec F S128 .f32) (l : Vec F S128 .i32) (g : Vec F S128x4 .f32)
    (hc : Placed1 (bV i) f (scoreAt (bV i) f) o c) (hl : Placed1 (φ := .i32) (bV i) f (labAt (bV i) f) o l) (hg : Placed4 (bV i) f o g) :
    iprop(cP d i c ∗ lP d i l ∗ bP d i g) ⊢ WP d i (put i h1 o (rankV (bV i) f o 101) hr (matV f) (laneV (bV i) f o)) fun _ =>
      iprop(∃ c' l' g', ⌜Placed1 (bV i) f (scoreAt (bV i) f) (o + 16) c' ∧ Placed1 (φ := .i32) (bV i) f (labAt (bV i) f) (o + 16) l' ∧
        Placed4 (bV i) f (o + 16) g'⌝ ∗ cP d i c' ∗ lP d i l' ∗ bP d i g') := by
  unfold put
  iintro ⟨Hc, Hl, Hb⟩
  iapply (wp_piece (putC_wp d i f o _ _ c)) $$ Hc
  iintro %_ Hc
  iapply (wp_piece (putL_wp d i f o _ _ l)) $$ Hl
  iintro %_ Hl
  iapply (wp_piece (putCol_wp d i f h1 hd ho 0 g (fun _ => o) rfl hg)) $$ Hb
  iintro %_ ⟨%g0, %hg0, Hb⟩
  iapply (wp_piece (putCol_wp d i f h1 hd ho 1 g0 _ rfl hg0)) $$ Hb
  iintro %_ ⟨%g1, %hg1, Hb⟩
  iapply (wp_piece (putCol_wp d i f h1 hd ho 2 g1 _ rfl hg1)) $$ Hb
  iintro %_ ⟨%g2, %hg2, Hb⟩
  have h3 := putCol_wp d i f h1 hd ho 3 g2 _ rfl hg2
  unfold WP at h3 ⊢
  iapply (h3.trans (wp_wand frame _ _)) $$ Hb
  iintro %_ ⟨%g3, %hg3, Hb⟩
  iexists (storeIdx c ![rankV (bV i) f o 101] (laneV (bV i) f o).s (maskV o) false (k0_idx44_inb i _ hr h1)),
    (storeIdx (e := .i32) l ![rankV (bV i) f o 101] (labV (laneV (bV i) f o).live) (maskV o) false (k0_idx45_inb i _ hr h1)), g3
  isplitr
  · ipureintro
    refine ⟨placed1_store i (bV i) f _ hd ho _ (scoreAt_lane (bV i) f hd) c (k0_idx44_inb i _ hr h1) hc,
      placed1_store (φ := .i32) i (bV i) f _ hd ho _ (labAt_lane (bV i) f hd) l (k0_idx45_inb i _ hr h1) hl, fun q => ?_⟩
    have h := hg3 q
    fin_cases q <;> exact h
  · isplitl [Hc]
    · iexact Hc
    · isplitl [Hl] <;> iassumption

end Cert.Proof.K
-- ==== Proof.Moves.lean ====
/- The copies of a subcore: its row of the packed input in, its rows of the four results out. -/
module

public import proofs.«01_k».proof.Proof.Pieces

@[expose] public section

noncomputable section

namespace Cert.Proof.K

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 1) (Elt F) ℕ UU ℕ

variable (d : Dev nD) (i : grid0.Coords)

/-- The subcore's rows: of the packed input, and of the four results. -/
abbrev xR (h1 : k0_cond1 i = 1#1) (X : Buf (Elt F) ((rowX i h1).view.loc (tV d i))) : sProp 𝕄 :=
  (rowX i h1).view.loc (tV d i) ↦[(rowX i h1).view.set]{fullShare} X
/-- The tile's row of each result, held whole. -/
abbrev nR (h1 : k0_cond1 i = 1#1) (X : Buf (Elt F) ((rowN i h1).view.loc (tV d i))) : sProp 𝕄 :=
  (rowN i h1).view.loc (tV d i) ↦[(rowN i h1).view.set]{fullShare} X
abbrev bR (h1 : k0_cond1 i = 1#1) (X : Buf (Elt F) ((rowB i h1).view.loc (tV d i))) : sProp 𝕄 :=
  (rowB i h1).view.loc (tV d i) ↦[(rowB i h1).view.set]{fullShare} X
abbrev sR (h1 : k0_cond1 i = 1#1) (X : Buf (Elt F) ((rowS i h1).view.loc (tV d i))) : sProp 𝕄 :=
  (rowS i h1).view.loc (tV d i) ↦[(rowS i h1).view.set]{fullShare} X
abbrev cR (h1 : k0_cond1 i = 1#1) (X : Buf (Elt F) ((rowC i h1).view.loc (tV d i))) : sProp 𝕄 :=
  (rowC i h1).view.loc (tV d i) ↦[(rowC i h1).view.set]{fullShare} X

/-- The packed row brought in. -/
theorem fetch_wp (h1 : k0_cond1 i = 1#1) (O : CellTallies nD τ sig (HIx 1)) (W : Waits sig (HIx 1))
    (X : Buf (Elt F) ((rowX i h1).view.loc (tV d i))) (f : Vec F S1280 .f32) :
    iprop(Transfers.MayWaits (tV d i) (default : HIx 1) O ∗ xR d i h1 X ∗ xP d i f
        ∗ semVal (tV d i, .dma cc0_scratch6.sem) 0 ∗ owes (tV d i) O W)
      ⊢ WP d i (fetch i h1) fun _ => iprop(xR d i h1 X
        ∗ xP d i ((rowX i h1).view.read (Elt F) X) ∗ semVal (tV d i, .dma cc0_scratch6.sem) 0
        ∗ ∃ W', ⌜∀ p ∈ W', p ∈ W ∨ p.2 = none⌝ ∗ owes (tV d i) O W') := by
  unfold fetch WP
  iintro ⟨#Hmw, Hrow, Hx, Hsem, HO⟩
  sl_exec
  sl_step
  isplitl [Hrow]
  · iexact Hrow
  isplitl [Hx]
  · iapply (Entails.of_eq (congrArg (xP d i) ?_)) $$ Hx
    exact View.write_whole_univ _ _ _
  isplitl [Hsem]
  · iexact Hsem
  iexists (insert (SemLoc.dma cc0_scratch6.sem, default) W)
  isplitr
  · ipureintro
    intro p hp
    rcases Finset.mem_insert.mp hp with rfl | hp
    · exact .inr rfl
    · exact .inl hp
  · iexact HO

/-- The count's buffer, written whole, holds what was written. -/
theorem send_pay (n nv : Vec F S16 .i32) :
    NM.view.read (Elt F) (NM.view.writes (Elt F) nv [⟨Rect.unit (s := S16) ![0] S16.size inb_S16_S16_0, n⟩]) = n := by
  funext x
  rw [View.writes_singleton]
  have hx : x = (NM.access (Rect.unit (s := S16) ![0] S16.size inb_S16_S16_0)).emb x := by
    refine idx1_ext ?_
    show _ = 0 + 1 * (x 0).val
    omega
  refine (congrFun (View.read_whole (Val := Elt F) cc0_scratch5 _) x).trans ?_
  conv_lhs => rw [hx]
  exact View.write_emb_of_mem _ _ (Finset.mem_univ _)

/-- A row written whole holds what was written. -/
theorem row_out {s : Shape} {e : EltTy} (r : Memref sig .scVector .hbm s e) (w w' : s.Idx → Elt F e) (X : Buf (Elt F) (r.view.loc (tV d i)))
    (hw : w = w') :
    (r.view.loc (tV d i) ↦[r.view.set]{fullShare} r.view.writes (Elt F) X [⟨Rect.whole s, w⟩] : sProp 𝕄)
      ⊢ iprop(∃ X', ⌜r.view.read (Elt F) X' = w'⌝ ∗ r.view.loc (tV d i) ↦[r.view.set]{fullShare} X') := by
  iintro H
  iexists (r.view.writes (Elt F) X [⟨Rect.whole s, w⟩])
  isplitr
  · ipureintro; exact (View.read_writes_whole _ _ _).trans hw
  · iexact H

/-- The four results sent out: each row holds what its scratch buffer held. -/
theorem send_wp (h1 : k0_cond1 i = 1#1) (n : IVec S16 32) (O : CellTallies nD τ sig (HIx 1)) (W : Waits sig (HIx 1))
    (XN : Buf (Elt F) ((rowN i h1).view.loc (tV d i))) (XB : Buf (Elt F) ((rowB i h1).view.loc (tV d i)))
    (XS : Buf (Elt F) ((rowS i h1).view.loc (tV d i))) (XC : Buf (Elt F) ((rowC i h1).view.loc (tV d i)))
    (nv : Vec F S16 .i32) (b : Vec F S128x4 .f32) (c : Vec F S128 .f32) (l : Vec F S128 .i32) :
    iprop(Transfers.MayWaits (tV d i) (default : HIx 1) O
        ∗ (nR d i h1 XN
        ∗ bR d i h1 XB
        ∗ sR d i h1 XS
        ∗ cR d i h1 XC)
        ∗ (nP d i nv ∗ bP d i b ∗ cP d i c ∗ lP d i l)
        ∗ (semVal (tV d i, .dma cc0_scratch7.sem) 0 ∗ semVal (tV d i, .dma cc0_scratch8.sem) 0 ∗ semVal (tV d i, .dma cc0_scratch9.sem) 0
          ∗ semVal (tV d i, .dma cc0_scratch10.sem) 0) ∗ owes (tV d i) O W)
      ⊢ WP d i (send i h1 n) fun _ => iprop(((∃ X', ⌜(rowN i h1).view.read (Elt F) X' = n⌝ ∗ nR d i h1 X')
          ∗ (∃ X', ⌜(rowB i h1).view.read (Elt F) X' = b⌝ ∗ bR d i h1 X')
          ∗ (∃ X', ⌜(rowS i h1).view.read (Elt F) X' = c⌝ ∗ sR d i h1 X')
          ∗ (∃ X', ⌜(rowC i h1).view.read (Elt F) X' = l⌝ ∗ cR d i h1 X'))
        ∗ ((∃ nv', nP d i nv') ∗ bP d i b ∗ cP d i c ∗ lP d i l)
        ∗ (semVal (tV d i, .dma cc0_scratch7.sem) 0 ∗ semVal (tV d i, .dma cc0_scratch8.sem) 0 ∗ semVal (tV d i, .dma cc0_scratch9.sem) 0
          ∗ semVal (tV d i, .dma cc0_scratch10.sem) 0)
        ∗ ∃ W', ⌜∀ p ∈ W', p ∈ W ∨ p.2 = none⌝ ∗ owes (tV d i) O W') := by
  unfold send WP
  iintro ⟨#Hmw, ⟨HN, HB, HS, HC⟩, ⟨Hn, Hb, Hc, Hl⟩, ⟨H7, H8, H9, H10⟩, HO⟩
  sl_exec
  sl_step
  isplitl [HN HB HS HC]
  · isplitl [HN]
    · iapply (row_out d i (rowN i h1) (send_wp.sl.dma2 n nv) n XN (send_pay n nv)) $$ HN
    isplitl [HB]
    · iapply (row_out d i (rowB i h1) (send_wp.sl.dma2_1 b) b XB rfl) $$ HB
    isplitl [HS]
    · iapply (row_out d i (rowS i h1) (send_wp.sl.dma2_2 c) c XS rfl) $$ HS
    · iapply (row_out d i (rowC i h1) (send_wp.sl.dma2_3 l) l XC rfl) $$ HC
  isplitl [Hn Hb Hc Hl]
  · isplitl [Hn]
    · iexists _; iexact Hn
    isplitl [Hb]
    · iexact Hb
    isplitl [Hc]
    · iexact Hc
    · iexact Hl
  isplitl [H7 H8 H9 H10]
  · isplitl [H7]
    · iexact H7
    isplitl [H8]
    · iexact H8
    isplitl [H9]
    · iexact H9
    · iexact H10
  iexists (insert (SemLoc.dma cc0_scratch10.sem, default) (insert (SemLoc.dma cc0_scratch9.sem, default)
    (insert (SemLoc.dma cc0_scratch8.sem, default) (insert (SemLoc.dma cc0_scratch7.sem, default) W))))
  isplitr
  · ipureintro
    intro p hp
    simp only [Finset.mem_insert] at hp
    rcases hp with rfl | rfl | rfl | rfl | hp
    · exact .inr rfl
    · exact .inr rfl
    · exact .inr rfl
    · exact .inr rfl
    · exact .inl hp
  · iexact HO

end Cert.Proof.K
-- ==== Proof.Work.lean ====
/- The whole work of one subcore that has a row, from its pieces. -/
module

public import proofs.«01_k».proof.Proof.Moves

@[expose] public section

noncomputable section

namespace Cert.Proof.K

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type} [FloatOps F]

local notation "𝕄" => MT nD τ sig (HIx 1) (Elt F) ℕ UU ℕ

variable (d : Dev nD) (i : grid0.Coords)

/-- The count of positive scores of a packed row, in every lane. -/
def cntF (b : IVec S16 32) (f : Vec F S1280 .f32) : IVec S16 32 :=
  cntV (laneV b f 0).s (laneV b f 16).s (laneV b f 32).s (laneV b f 48).s (laneV b f 64).s (laneV b f 80).s (laneV b f 96).s

/-- The subcore's scratch buffers, at some contents. -/
abbrev scratch : sProp 𝕄 := iprop((∃ f, xP d i f) ∗ (∃ f, sP d i f) ∗ (∃ f, bP d i f) ∗ (∃ f, cP d i f) ∗ (∃ f, lP d i f) ∗ ∃ f, nP d i f)

/-- The subcore's transfer semaphores, at rest. -/
abbrev sems : sProp 𝕄 := iprop(semVal (tV d i, .dma cc0_scratch6.sem) 0 ∗ semVal (tV d i, .dma cc0_scratch7.sem) 0
  ∗ semVal (tV d i, .dma cc0_scratch8.sem) 0 ∗ semVal (tV d i, .dma cc0_scratch9.sem) 0 ∗ semVal (tV d i, .dma cc0_scratch10.sem) 0)

/-- The rows of the four results once they are sent: the count, and the entries in their rows. -/
abbrev rowsOut (h1 : k0_cond1 i = 1#1) (f : Vec F S1280 .f32) : sProp 𝕄 :=
  iprop((∃ X', ⌜(rowN i h1).view.read (Elt F) X' = cntF (bV i) f⌝ ∗ nR d i h1 X')
    ∗ (∃ X', ⌜Placed4 (bV i) f 112 ((rowB i h1).view.read (Elt F) X')⌝ ∗ bR d i h1 X')
    ∗ (∃ X', ⌜Placed1 (bV i) f (scoreAt (bV i) f) 112 ((rowS i h1).view.read (Elt F) X')⌝ ∗ sR d i h1 X')
    ∗ (∃ X', ⌜Placed1 (φ := .i32) (bV i) f (labAt (bV i) f) 112 ((rowC i h1).view.read (Elt F) X')⌝ ∗ cR d i h1 X'))

set_option maxHeartbeats 2000000 in
/-- The work of a subcore: from its row of the packed input and its rows of the results, the results' rows computed. -/
theorem work_wp (h1 : k0_cond1 i = 1#1) (O : CellTallies nD τ sig (HIx 1)) (W : Waits sig (HIx 1))
    (X : Buf (Elt F) ((rowX i h1).view.loc (tV d i)))
    (XN : Buf (Elt F) ((rowN i h1).view.loc (tV d i))) (XB : Buf (Elt F) ((rowB i h1).view.loc (tV d i)))
    (XS : Buf (Elt F) ((rowS i h1).view.loc (tV d i))) (XC : Buf (Elt F) ((rowC i h1).view.loc (tV d i))) :
    iprop(Transfers.MayWaits (tV d i) (default : HIx 1) O ∗ xR d i h1 X ∗ (nR d i h1 XN ∗ bR d i h1 XB ∗ sR d i h1 XS ∗ cR d i h1 XC)
        ∗ scratch d i ∗ sems d i ∗ owes (tV d i) O W)
      ⊢ WP d i (work i h1) fun _ => iprop(xR d i h1 X ∗ rowsOut d i h1 ((rowX i h1).view.read (Elt F) X)
        ∗ scratch d i ∗ sems d i ∗ ∃ W', ⌜∀ p ∈ W', p ∈ W ∨ p.2 = none⌝ ∗ owes (tV d i) O W') := by
  unfold work
  iintro ⟨#Hmw, HX, ⟨HN, HB, HS, HC⟩, ⟨⟨%f0, Hx⟩, ⟨%g0, Hs⟩, ⟨%b0, Hb⟩, ⟨%c0, Hc⟩, ⟨%q0, Hl⟩, ⟨%n0, Hn⟩⟩, ⟨H6, H7, H8, H9, H10⟩, HO⟩
  iapply (wp_piece (fetch_wp d i h1 O W X f0)) $$ [HX Hx H6 HO]
  · isplitr
    · iexact Hmw
    isplitl [HX]
    · iexact HX
    isplitl [Hx]
    · iexact Hx
    isplitl [H6] <;> iassumption
  iintro %_ ⟨HX, Hx, H6, ⟨%W1, %hW1, HO⟩⟩
  generalize (rowX i h1).view.read (Elt F) X = f
  iapply (wp_piece (mats_wp d i f)) $$ Hx
  iintro %m ⟨%hm, Hx⟩
  subst hm
  iapply (wp_piece (chunk_wp d i f h1 (o := 0) (by decide) (by decide) rfl _ _ g0 (fun e he => absurd he (Nat.not_lt_zero e)))) $$ [Hx Hs]
  · isplitl [Hx] <;> iassumption
  iintro %l0 ⟨%e0, Hx, ⟨%g1, %hg1, Hs⟩⟩
  iapply (wp_piece (chunk_wp d i f h1 (o := 16) (by decide) (by decide) rfl _ _ g1 hg1)) $$ [Hx Hs]
  · isplitl [Hx] <;> iassumption
  iintro %l1 ⟨%e1, Hx, ⟨%g2, %hg2, Hs⟩⟩
  iapply (wp_piece (chunk_wp d i f h1 (o := 32) (by decide) (by decide) rfl _ _ g2 hg2)) $$ [Hx Hs]
  · isplitl [Hx] <;> iassumption
  iintro %l2 ⟨%e2, Hx, ⟨%g3, %hg3, Hs⟩⟩
  iapply (wp_piece (chunk_wp d i f h1 (o := 48) (by decide) (by decide) rfl _ _ g3 hg3)) $$ [Hx Hs]
  · isplitl [Hx] <;> iassumption
  iintro %l3 ⟨%e3, Hx, ⟨%g4, %hg4, Hs⟩⟩
  iapply (wp_piece (chunk_wp d i f h1 (o := 64) (by decide) (by decide) rfl _ _ g4 hg4)) $$ [Hx Hs]
  · isplitl [Hx] <;> iassumption
  iintro %l4 ⟨%e4, Hx, ⟨%g5, %hg5, Hs⟩⟩
  iapply (wp_piece (chunk_wp d i f h1 (o := 80) (by decide) (by decide) rfl _ _ g5 hg5)) $$ [Hx Hs]
  · isplitl [Hx] <;> iassumption
  iintro %l5 ⟨%e5, Hx, ⟨%g6, %hg6, Hs⟩⟩
  iapply (wp_piece (chunk_wp d i f h1 (o := 96) (by decide) (by decide) rfl _ _ g6 hg6)) $$ [Hx Hs]
  · isplitl [Hx] <;> iassumption
  iintro %l6 ⟨%e6, Hx, ⟨%g7, %hg7, Hs⟩⟩
  subst e0 e1 e2 e3 e4 e5 e6
  iapply (wp_piece (loop_wp d i f g7 hg7 h1)) $$ Hs
  iintro %r ⟨%hr, Hs⟩
  subst hr
  iapply (wp_piece (ask_wp d i (sP d i g7) f 96)) $$ Hs
  iintro %k6 Hs
  iapply (wp_piece (ask_wp d i (sP d i g7) f 80)) $$ Hs
  iintro %k5 Hs
  iapply (wp_piece (ask_wp d i (sP d i g7) f 64)) $$ Hs
  iintro %k4 Hs
  iapply (wp_piece (ask_wp d i (sP d i g7) f 48)) $$ Hs
  iintro %k3 Hs
  iapply (wp_piece (ask_wp d i (sP d i g7) f 32)) $$ Hs
  iintro %k2 Hs
  iapply (wp_piece (ask_wp d i (sP d i g7) f 16)) $$ Hs
  iintro %k1 Hs
  iapply (wp_piece (ask_wp d i (sP d i g7) f 0)) $$ Hs
  iintro %k0 Hs
  iapply (wp_piece (put_wp d i f h1 (o := 0) (by decide) (by decide) _ c0 q0 b0
    (fun _ e he => absurd he (Nat.not_lt_zero e)) (fun _ e he => absurd he (Nat.not_lt_zero e)) (fun _ _ e he => absurd he (Nat.not_lt_zero e)))) $$ [Hc Hl Hb]
  · isplitl [Hc]
    · iexact Hc
    isplitl [Hl] <;> iassumption
  iintro %_ ⟨%c1, %q1, %b1, %hp1, Hc, Hl, Hb⟩
  iapply (wp_piece (put_wp d i f h1 (o := 16) (by decide) (by decide) _ c1 q1 b1
    hp1.1 hp1.2.1 hp1.2.2)) $$ [Hc Hl Hb]
  · isplitl [Hc]
    · iexact Hc
    isplitl [Hl] <;> iassumption
  iintro %_ ⟨%c2, %q2, %b2, %hp2, Hc, Hl, Hb⟩
  iapply (wp_piece (put_wp d i f h1 (o := 32) (by decide) (by decide) _ c2 q2 b2
    hp2.1 hp2.2.1 hp2.2.2)) $$ [Hc Hl Hb]
  · isplitl [Hc]
    · iexact Hc
    isplitl [Hl] <;> iassumption
  iintro %_ ⟨%c3, %q3, %b3, %hp3, Hc, Hl, Hb⟩
  iapply (wp_piece (put_wp d i f h1 (o := 48) (by decide) (by decide) _ c3 q3 b3
    hp3.1 hp3.2.1 hp3.2.2)) $$ [Hc Hl Hb]
  · isplitl [Hc]
    · iexact Hc
    isplitl [Hl] <;> iassumption
  iintro %_ ⟨%c4, %q4, %b4, %hp4, Hc, Hl, Hb⟩
  iapply (wp_piece (put_wp d i f h1 (o := 64) (by decide) (by decide) _ c4 q4 b4
    hp4.1 hp4.2.1 hp4.2.2)) $$ [Hc Hl Hb]
  · isplitl [Hc]
    · iexact Hc
    isplitl [Hl] <;> iassumption
  iintro %_ ⟨%c5, %q5, %b5, %hp5, Hc, Hl, Hb⟩
  iapply (wp_piece (put_wp d i f h1 (o := 80) (by decide) (by decide) _ c5 q5 b5
    hp5.1 hp5.2.1 hp5.2.2)) $$ [Hc Hl Hb]
  · isplitl [Hc]
    · iexact Hc
    isplitl [Hl] <;> iassumption
  iintro %_ ⟨%c6, %q6, %b6, %hp6, Hc, Hl, Hb⟩
  iapply (wp_piece (put_wp d i f h1 (o := 96) (by decide) (by decide) _ c6 q6 b6
    hp6.1 hp6.2.1 hp6.2.2)) $$ [Hc Hl Hb]
  · isplitl [Hc]
    · iexact Hc
    isplitl [Hl] <;> iassumption
  iintro %_ ⟨%c7, %q7, %b7, %hp7, Hc, Hl, Hb⟩
  have hsend := send_wp d i h1 (cntF (bV i) f) O W1 XN XB XS XC n0 b7 c7 q7
  unfold WP at hsend ⊢
  iapply (hsend.trans (wp_wand frame _ _)) $$ [HN HB HS HC Hn Hb Hc Hl H7 H8 H9 H10 HO]
  · isplitr
    · iexact Hmw
    isplitl [HN HB HS HC]
    · isplitl [HN]
      · iexact HN
      isplitl [HB]
      · iexact HB
      isplitl [HS] <;> iassumption
    isplitl [Hn Hb Hc Hl]
    · isplitl [Hn]
      · iexact Hn
      isplitl [Hb]
      · iexact Hb
      isplitl [Hc] <;> iassumption
    isplitl [H7 H8 H9 H10]
    · isplitl [H7]
      · iexact H7
      isplitl [H8]
      · iexact H8
      isplitl [H9] <;> iassumption
    · iexact HO
  iintro %_ ⟨⟨⟨%YN, %hN, HN⟩, ⟨%YB, %hB, HB⟩, ⟨%YS, %hS, HS⟩, ⟨%YC, %hC, HC⟩⟩, ⟨⟨%n1, Hn⟩, Hb, Hc, Hl⟩, ⟨H7, H8, H9, H10⟩, ⟨%W2, %hW2, HO⟩⟩
  isplitl [HX]
  · iexact HX
  isplitl [HN HB HS HC]
  · isplitl [HN]
    · iexists YN
      isplitr
      · ipureintro; exact hN
      · iexact HN
    isplitl [HB]
    · iexists YB
      isplitr
      · ipureintro; rw [hB]; exact hp7.2.2
      · iexact HB
    isplitl [HS]
    · iexists YS
      isplitr
      · ipureintro; rw [hS]; exact hp7.1
      · iexact HS
    · iexists YC
      isplitr
      · ipureintro; rw [hC]; exact hp7.2.1
      · iexact HC
  isplitl [Hx Hs Hn Hb Hc Hl]
  · isplitl [Hx]
    · iexists _; iexact Hx
    isplitl [Hs]
    · iexists _; iexact Hs
    isplitl [Hb]
    · iexists _; iexact Hb
    isplitl [Hc]
    · iexists _; iexact Hc
    isplitl [Hl]
    · iexists _; iexact Hl
    · iexists _; iexact Hn
  isplitl [H6 H7 H8 H9 H10]
  · isplitl [H6]
    · iexact H6
    isplitl [H7]
    · iexact H7
    isplitl [H8]
    · iexact H8
    isplitl [H9] <;> iassumption
  iexists W2
  isplitr
  · ipureintro
    intro p hp
    rcases hW2 p hp with h | h
    · exact hW1 p h
    · exact .inr h
  · iexact HO

end Cert.Proof.K
-- ==== Proof.Bands.lean ====
/- The rows of the buffers in the main memory that the subcores share out. -/
module

public import proofs.«01_k».proof.Proof.Work

@[expose] public section

noncomputable section

namespace Cert.Proof.K

open Cert.KernelIdeal Cert.KernelIdeal.Gen
open Idealize.ShloMosaic
open Idealize.SL.Sem

/-- The elements of a buffer whose first coordinate is `b`. -/
def band (s : Shape) (a : Fin s.rank) (b : ℕ) : Finset s.Idx := Finset.univ.filter fun j => (j a).val = b

/-- Being in a band is having its number on the axis. -/
theorem mem_band {s : Shape} {a : Fin s.rank} {b : ℕ} {j : s.Idx} : j ∈ band s a b ↔ (j a).val = b := by simp [band]

/-- Bands of different numbers share nothing. -/
theorem band_disjoint {s : Shape} {a : Fin s.rank} (i : Fin 16) (_ : i ∈ (Finset.univ : Finset (Fin 16))) (k : Fin 16)
    (_ : k ∈ (Finset.univ : Finset (Fin 16))) (h : i ≠ k) : Disjoint (band s a i.val) (band s a k.val) :=
  Finset.disjoint_left.mpr fun _ hi hk => h (Fin.ext ((mem_band.mp hi).symm.trans (mem_band.mp hk)))

/-- On an axis of at most sixteen, the sixteen bands cover the table. -/
theorem band_cover {s : Shape} {a : Fin s.rank} (h : s.size a ≤ 16) :
    (Finset.univ : Finset (Fin 16)).biUnion (fun i => band s a i.val) = Finset.univ := by
  ext j
  simp only [Finset.mem_biUnion, Finset.mem_univ, true_and, iff_true]
  exact ⟨⟨(j a).val, lt_of_lt_of_le (j a).isLt h⟩, mem_band.mpr rfl⟩

/-- Position `(b, r, q)` of a table of three axes. -/
def at3 {l n m : ℕ} [NeZero l] [NeZero n] [NeZero m] (b r q : ℕ) : (⟨3, ![l, n, m]⟩ : Shape).Idx :=
  fun a => match a with | ⟨0, _⟩ => Fin.ofNat l b | ⟨1, _⟩ => Fin.ofNat n r | ⟨2, _⟩ => Fin.ofNat m q

/-- Row `b` of a table of two axes, and of one of three. -/
def row2 {α : Type} {l n : ℕ} [NeZero l] [NeZero n] (X : (⟨2, ![l, n]⟩ : Shape).Idx → α) (b : ℕ) : (⟨1, ![n]⟩ : Shape).Idx → α :=
  fun y => X (at2 b (y 0).val)
def row3 {α : Type} {l n m : ℕ} [NeZero l] [NeZero n] [NeZero m] (X : (⟨3, ![l, n, m]⟩ : Shape).Idx → α) (b : ℕ) :
    (⟨2, ![n, m]⟩ : Shape).Idx → α := fun y => X (at3 b (y 0).val (y 1).val)

/-- A row depends on its band alone. -/
theorem row2_congr {α : Type} {l n : ℕ} [NeZero l] [NeZero n] {X Y : (⟨2, ![l, n]⟩ : Shape).Idx → α} {b : ℕ} (hb : b < l)
    (h : ∀ j ∈ band (⟨2, ![l, n]⟩ : Shape) (0 : Fin 2) b, X j = Y j) : row2 X b = row2 Y b :=
  funext fun _ => h _ (mem_band.mpr (Nat.mod_eq_of_lt hb))

/-- A row of a table of three axes depends on its band alone. -/
theorem row3_congr {α : Type} {l n m : ℕ} [NeZero l] [NeZero n] [NeZero m] {X Y : (⟨3, ![l, n, m]⟩ : Shape).Idx → α} {b : ℕ} (hb : b < l)
    (h : ∀ j ∈ band (⟨3, ![l, n, m]⟩ : Shape) (0 : Fin 3) b, X j = Y j) : row3 X b = row3 Y b :=
  funext fun _ => h _ (mem_band.mpr (Nat.mod_eq_of_lt hb))

/-- The positions of the rectangle that is one row are the band. -/
theorem unit2_set {l n b : ℕ} {off : Fin 2 → ℕ} (h : off = ![b, 0]) (inb) :
    (Rect.unit (s := ⟨2, ![l, n]⟩) off (⟨2, ![1, n]⟩ : Shape).size inb).set = band (⟨2, ![l, n]⟩ : Shape) (0 : Fin 2) b := by
  subst h
  ext j
  rw [Rect.mem_set_unit, mem_band]
  have h1 : (j 1).val < n := (j 1).isLt
  constructor
  · intro hh
    have := hh 0
    change b ≤ (j 0).val ∧ (j 0).val < b + 1 at this
    omega
  · intro hh a
    match a with
    | ⟨0, _⟩ => change b ≤ (j 0).val ∧ (j 0).val < b + 1; omega
    | ⟨1, _⟩ => change 0 ≤ (j 1).val ∧ (j 1).val < 0 + n; omega

/-- The same of a table of three axes. -/
theorem unit3_set {l n m b : ℕ} {off : Fin 3 → ℕ} (h : off = ![b, 0, 0]) (inb) :
    (Rect.unit (s := ⟨3, ![l, n, m]⟩) off (⟨3, ![1, n, m]⟩ : Shape).size inb).set = band (⟨3, ![l, n, m]⟩ : Shape) (0 : Fin 3) b := by
  subst h
  ext j
  rw [Rect.mem_set_unit, mem_band]
  have h1 : (j 1).val < n := (j 1).isLt
  have h2 : (j 2).val < m := (j 2).isLt
  constructor
  · intro hh
    have := hh 0
    change b ≤ (j 0).val ∧ (j 0).val < b + 1 at this
    omega
  · intro hh a
    match a with
    | ⟨0, _⟩ => change b ≤ (j 0).val ∧ (j 0).val < b + 1; omega
    | ⟨1, _⟩ => change 0 ≤ (j 1).val ∧ (j 1).val < 0 + n; omega
    | ⟨2, _⟩ => change 0 ≤ (j 2).val ∧ (j 2).val < 0 + m; omega

/-- Where a row's element lies in the table. -/
theorem unit2_emb {l n b : ℕ} [NeZero l] [NeZero n] (hb : b < l) {off : Fin 2 → ℕ} (h : off = ![b, 0]) (inb)
    (hn : (⟨1, ![n]⟩ : Shape).numel = (⟨2, ![1, n]⟩ : Shape).numel) (y : (⟨1, ![n]⟩ : Shape).Idx) :
    (Rect.unit (s := ⟨2, ![l, n]⟩) off (⟨2, ![1, n]⟩ : Shape).size inb).emb (Shape.reshapeEquiv hn y) = at2 b (y 0).val := by
  subst h
  have h0 : (y 0).val < n := (y 0).isLt
  rw [Shape.reshapeEquiv_cons_one]
  refine idx2_ext ?_ ?_
  · rw [Rect.emb_apply]
    change b + 1 * 0 = b % l
    rw [Nat.mod_eq_of_lt hb]; omega
  · rw [Rect.emb_apply]
    change 0 + 1 * (y 0).val = (y 0).val % n
    rw [Nat.mod_eq_of_lt h0]; omega

/-- Where a position of one row of a table of three axes lies in the table. -/
theorem unit3_emb {l n m b : ℕ} [NeZero l] [NeZero n] [NeZero m] (hb : b < l) {off : Fin 3 → ℕ} (h : off = ![b, 0, 0]) (inb)
    (hn : (⟨2, ![n, m]⟩ : Shape).numel = (⟨3, ![1, n, m]⟩ : Shape).numel) (y : (⟨2, ![n, m]⟩ : Shape).Idx) :
    (Rect.unit (s := ⟨3, ![l, n, m]⟩) off (⟨3, ![1, n, m]⟩ : Shape).size inb).emb (Shape.reshapeEquiv hn y)
      = at3 b (y 0).val (y 1).val := by
  subst h
  have h0 : (y 0).val < n := (y 0).isLt
  have h1 : (y 1).val < m := (y 1).isLt
  rw [Shape.reshapeEquiv_cons_one]
  funext a
  apply Fin.ext
  rw [Rect.emb_apply]
  match a with
  | ⟨0, _⟩ =>
    change b + 1 * 0 = b % l
    rw [Nat.mod_eq_of_lt hb]; omega
  | ⟨1, _⟩ =>
    change 0 + 1 * (y 0).val = (y 0).val % n
    rw [Nat.mod_eq_of_lt h0]; omega
  | ⟨2, _⟩ =>
    change 0 + 1 * (y 1).val = (y 1).val % m
    rw [Nat.mod_eq_of_lt h1]; omega

/-! ## The five rows of one subcore -/

variable {F : FTy → Type} (i : grid0.Coords) (h1 : k0_cond1 i = 1#1)

/-- The subcores that work are the first eight. -/
theorem cond_iff : k0_cond1 i = 1#1 ↔ (i 1).val < 8 := by
  have h : (i 1).val < 16 := (i 1).isLt
  generalize hn : (i 1).val = n at h
  unfold k0_cond1
  rw [hn]
  interval_cases n <;> decide

/-- The tile's row of the packed input is the band of its number; so are the rows of the results. -/
theorem set_rowX : (rowX i h1).view.set = band S8x1280 (0 : Fin 2) (i 1).val :=
  (View.set_reshape _ _).trans ((View.set_slice_whole _ _).trans (unit2_set (k0_off1_eq i) _))
theorem set_rowN : (rowN i h1).view.set = band S8x16 (0 : Fin 2) (i 1).val :=
  (View.set_reshape _ _).trans ((View.set_slice_whole _ _).trans (unit2_set (k0_off2_eq i) _))
theorem set_rowB : (rowB i h1).view.set = band S8x128x4 (0 : Fin 3) (i 1).val :=
  (View.set_reshape _ _).trans ((View.set_slice_whole _ _).trans (unit3_set (k0_off3_eq i) _))
theorem set_rowS : (rowS i h1).view.set = band S8x128 (0 : Fin 2) (i 1).val :=
  (View.set_reshape _ _).trans ((View.set_slice_whole _ _).trans (unit2_set (k0_off4_eq i) _))
theorem set_rowC : (rowC i h1).view.set = band S8x128 (0 : Fin 2) (i 1).val :=
  (View.set_reshape _ _).trans ((View.set_slice_whole _ _).trans (unit2_set (k0_off4_eq i) _))

/-- Reading the tile's row of the packed input gives the row of its number; so it is of the results. -/
theorem read_rowX (X : Vec F S8x1280 .f32) : (rowX i h1).view.read (Elt F) X = row2 X (i 1).val :=
  funext fun y => congrArg X (unit2_emb ((cond_iff i).mp h1) (k0_off1_eq i) _ _ y)
theorem read_rowN (X : IVec S8x16 32) : (rowN i h1).view.read (Elt F) X = row2 X (i 1).val :=
  funext fun y => congrArg X (unit2_emb ((cond_iff i).mp h1) (k0_off2_eq i) _ _ y)
theorem read_rowB (X : Vec F S8x128x4 .f32) : (rowB i h1).view.read (Elt F) X = row3 X (i 1).val :=
  funext fun y => congrArg X (unit3_emb ((cond_iff i).mp h1) (k0_off3_eq i) _ _ y)
theorem read_rowS (X : Vec F S8x128 .f32) : (rowS i h1).view.read (Elt F) X = row2 X (i 1).val :=
  funext fun y => congrArg X (unit2_emb ((cond_iff i).mp h1) (k0_off4_eq i) _ _ y)
theorem read_rowC (X : IVec S8x128 32) : (rowC i h1).view.read (Elt F) X = row2 X (i 1).val :=
  funext fun y => congrArg X (unit2_emb ((cond_iff i).mp h1) (k0_off4_eq i) _ _ y)

end Cert.Proof.K
-- ==== Proof.Pay.lean ====
/- What the launch hands each subcore and gets back: rows of the packed input and of the four results. -/
module

public import proofs.«01_k».proof.Proof.Bands

@[expose] public section

noncomputable section

namespace Cert.Proof.K

open Cert.KernelIdeal Cert.KernelIdeal.Gen
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type}

local notation "𝕄" => MT nD τ sig (HIx 1) (Elt F) ℕ UU ℕ

/-! ## Families of rows, each with a fact about its contents -/

theorem bigSep_facts {I : Type} (s : Finset I) (φ : I → Prop) (A : I → sProp 𝕄) :
    (bigSep s fun t => iprop(⌜φ t⌝ ∗ A t)) ⊢ iprop(⌜∀ t ∈ s, φ t⌝ ∗ bigSep s A) := by
  classical
  induction s using Finset.induction_on with
  | empty =>
    rw [bigSep_empty, bigSep_empty]
    iintro -
    isplitr
    · ipureintro; exact fun t ht => absurd ht (Finset.notMem_empty t)
    · iempintro
  | insert a s ha ih =>
    rw [SparseCore.bigSep_insert' ha, SparseCore.bigSep_insert' ha]
    iintro ⟨⟨%h1, HA⟩, HR⟩
    ihave HR' := ih $$ HR
    icases HR' with ⟨%h2, HR⟩
    isplitr
    · ipureintro
      exact fun t ht => (Finset.mem_insert.mp ht).elim (fun e => e ▸ h1) (h2 t)
    isplitl [HA] <;> iassumption

/-- Rows that each satisfy their fact are a whole buffer that satisfies them all. -/
theorem rows_join [∀ e, Nonempty (Elt F e)] (ℓ : Loc nD τ sig) (K : Fin 16 → Finset (Idx ℓ)) (D : Fin 16 → Buf (Elt F) ℓ → Prop)
    (hK : ∀ i ∈ (Finset.univ : Finset (Fin 16)), ∀ k ∈ (Finset.univ : Finset (Fin 16)), i ≠ k → Disjoint (K i) (K k))
    (hcov : Finset.univ.biUnion K = Finset.univ)
    (hD : ∀ i X Y, (∀ j ∈ K i, Y j = X j) → D i X → D i Y) :
    (bigSep Finset.univ fun i => iprop(∃ f, ⌜D i f⌝ ∗ ℓ ↦[K i]{fullShare} f))
      ⊢ (iprop(∃ g, ⌜∀ i, D i g⌝ ∗ ℓ ↦{fullShare} g) : sProp 𝕄) := by
  have : Nonempty (Buf (Elt F) ℓ) := ⟨fun _ => Classical.arbitrary _⟩
  refine (bigSep_exists_pi Finset.univ (fun i (f : Buf (Elt F) ℓ) => iprop(⌜D i f⌝ ∗ ℓ ↦[K i]{fullShare} f))).trans ?_
  iintro ⟨%fs, H⟩
  ihave H' := (bigSep_facts Finset.univ (fun i => D i (fs i)) (fun i => (ℓ ↦[K i]{fullShare} fs i : sProp 𝕄))) $$ H
  icases H' with ⟨%hfs, H⟩
  ihave H' := (pointsTo_biUnion_join (ℓ := ℓ) (q := fullShare) (Val := Elt F) Finset.univ K fs (fs 0) hK) $$ H
  icases H' with ⟨%g, %hg, Hg⟩
  rw [hcov]
  iexists g
  isplitr
  · ipureintro
    exact fun i => hD i (fs i) g (hg i (Finset.mem_univ i)) (hfs i (Finset.mem_univ i))
  · iexact Hg

/-- A whole buffer is its rows. -/
theorem rows_split (ℓ : Loc nD τ sig) (K : Fin 16 → Finset (Idx ℓ)) (f : Buf (Elt F) ℓ)
    (hK : ∀ i ∈ (Finset.univ : Finset (Fin 16)), ∀ k ∈ (Finset.univ : Finset (Fin 16)), i ≠ k → Disjoint (K i) (K k))
    (hcov : Finset.univ.biUnion K = Finset.univ) :
    (ℓ ↦{fullShare} f : sProp 𝕄) = bigSep Finset.univ fun i => ℓ ↦[K i]{fullShare} f := by
  rw [← pointsTo_biUnion Finset.univ (ℓ := ℓ) K hK, hcov]

/-! ## The five buffers -/

abbrev xLoc (d : Dev nD) : Loc nD τ sig := (SparseCore.T d).loc main_v10
abbrev nLoc (d : Dev nD) : Loc nD τ sig := (SparseCore.T d).loc main_v11_0
abbrev bLoc (d : Dev nD) : Loc nD τ sig := (SparseCore.T d).loc main_v11_1
abbrev sLoc (d : Dev nD) : Loc nD τ sig := (SparseCore.T d).loc main_v11_2
abbrev cLoc (d : Dev nD) : Loc nD τ sig := (SparseCore.T d).loc main_v11_3

variable [FloatOps F]

/-- A batch row's number in every lane. -/
def bN (b : ℕ) : IVec S16 32 := fun _ => BitVec.ofNat 32 b

/-- A tile's batch number in every lane. -/
theorem bV_eq (i : grid0.Coords) : bV i = bN (i 1).val := by
  funext x
  simp only [bV, bN, addi, IntOp.addi, broadcast, BitVec.zero_add]

/-- The results of batch row `b`, from the packed input `X`: the count, and the entries in their rows. -/
def GoodN (X : Vec F S8x1280 .f32) (b : ℕ) (g : IVec S8x16 32) : Prop := b < 8 → row2 g b = cntF (bN b) (row2 X b)
def GoodB (X : Vec F S8x1280 .f32) (b : ℕ) (g : Vec F S8x128x4 .f32) : Prop := b < 8 → Placed4 (bN b) (row2 X b) 112 (row3 g b)
def GoodS (X : Vec F S8x1280 .f32) (b : ℕ) (g : Vec F S8x128 .f32) : Prop :=
  b < 8 → Placed1 (bN b) (row2 X b) (scoreAt (bN b) (row2 X b)) 112 (row2 g b)
def GoodC (X : Vec F S8x1280 .f32) (b : ℕ) (g : IVec S8x128 32) : Prop :=
  b < 8 → Placed1 (φ := .i32) (bN b) (row2 X b) (labAt (bN b) (row2 X b)) 112 (row2 g b)

variable (XP : Dev nD → Vec F S8x1280 .f32)

/-- What a subcore is handed: its row of the packed input, its rows of the results. -/
abbrev GO (d : Dev nD) (i : Fin 16) : sProp 𝕄 :=
  iprop((xLoc d ↦[band S8x1280 (0 : Fin 2) i.val]{fullShare} XP d)
    ∗ (∃ f, nLoc d ↦[band S8x16 (0 : Fin 2) i.val]{fullShare} f)
    ∗ (∃ f, bLoc d ↦[band S8x128x4 (0 : Fin 3) i.val]{fullShare} f)
    ∗ (∃ f, sLoc d ↦[band S8x128 (0 : Fin 2) i.val]{fullShare} f)
    ∗ (∃ f, cLoc d ↦[band S8x128 (0 : Fin 2) i.val]{fullShare} f))

/-- What it brings back: the same, the results' rows computed. -/
abbrev TD (d : Dev nD) (i : Fin 16) : sProp 𝕄 :=
  iprop((xLoc d ↦[band S8x1280 (0 : Fin 2) i.val]{fullShare} XP d)
    ∗ (∃ f, ⌜GoodN (XP d) i.val f⌝ ∗ nLoc d ↦[band S8x16 (0 : Fin 2) i.val]{fullShare} f)
    ∗ (∃ f, ⌜GoodB (XP d) i.val f⌝ ∗ bLoc d ↦[band S8x128x4 (0 : Fin 3) i.val]{fullShare} f)
    ∗ (∃ f, ⌜GoodS (XP d) i.val f⌝ ∗ sLoc d ↦[band S8x128 (0 : Fin 2) i.val]{fullShare} f)
    ∗ (∃ f, ⌜GoodC (XP d) i.val f⌝ ∗ cLoc d ↦[band S8x128 (0 : Fin 2) i.val]{fullShare} f))

/-- The call's buffers before it, and after it. -/
abbrev ST (d : Dev nD) : sProp 𝕄 :=
  iprop((xLoc d ↦{fullShare} XP d) ∗ (∃ f, nLoc d ↦{fullShare} f) ∗ (∃ f, bLoc d ↦{fullShare} f)
    ∗ (∃ f, sLoc d ↦{fullShare} f) ∗ (∃ f, cLoc d ↦{fullShare} f))
/-- What the call gives back. -/
abbrev DN (d : Dev nD) : sProp 𝕄 :=
  iprop((xLoc d ↦{fullShare} XP d)
    ∗ (∃ f, ⌜∀ i : Fin 16, GoodN (XP d) i.val f⌝ ∗ nLoc d ↦{fullShare} f)
    ∗ (∃ f, ⌜∀ i : Fin 16, GoodB (XP d) i.val f⌝ ∗ bLoc d ↦{fullShare} f)
    ∗ (∃ f, ⌜∀ i : Fin 16, GoodS (XP d) i.val f⌝ ∗ sLoc d ↦{fullShare} f)
    ∗ (∃ f, ⌜∀ i : Fin 16, GoodC (XP d) i.val f⌝ ∗ cLoc d ↦{fullShare} f))

/-- Sixteen tiles take part. -/
theorem nSub_zero : (KC (F := F)).nSub 0 = 16 := rfl

/-- The call's payloads. -/
def P : (KC (F := F)).Pay (nD := nD) (Val := Elt F) (Name := ℕ) (U := UU) where
  st := fun q d _ => match q with | 0 => ST XP d
  dn := fun q d _ => match q with | 0 => DN XP d
  go := fun q d _ i => match q with | 0 => GO XP d (Fin.cast nSub_zero i)
  td := fun q d _ i => match q with | 0 => TD XP d (Fin.cast nSub_zero i)
  x := fun _ _ => iprop(emp)

instance P_storable : (P (F := F) XP).IsStorable where
  st q d _ := match q with | 0 => (inferInstance : BI.Storable (upEmb : UEmb _ 𝕄) (ST XP d))
  dn q d _ := match q with | 0 => (inferInstance : BI.Storable (upEmb : UEmb _ 𝕄) (DN XP d))
  go q d _ i := match q with | 0 => (inferInstance : BI.Storable (upEmb : UEmb _ 𝕄) (GO XP d (Fin.cast nSub_zero i)))
  td q d _ i := match q with | 0 => (inferInstance : BI.Storable (upEmb : UEmb _ 𝕄) (TD XP d (Fin.cast nSub_zero i)))

/-! ## Splitting the call's buffers among the subcores and joining them again -/

theorem tasks_eq (Φ : Fin 16 → sProp 𝕄) :
    (bigSep Finset.univ fun i : Fin ((KC (F := F)).nSub 0) => Φ (Fin.cast nSub_zero i)) = bigSep Finset.univ Φ :=
  bigSep_congr fun _ _ => congrArg Φ (Fin.ext rfl)

/-- Some contents of a whole buffer are some contents of each row. -/
theorem rows_some (ℓ : Loc nD τ sig) (K : Fin 16 → Finset (Idx ℓ))
    (hK : ∀ i ∈ (Finset.univ : Finset (Fin 16)), ∀ k ∈ (Finset.univ : Finset (Fin 16)), i ≠ k → Disjoint (K i) (K k))
    (hcov : Finset.univ.biUnion K = Finset.univ) :
    (iprop(∃ f, ℓ ↦{fullShare} f) : sProp 𝕄) ⊢ bigSep Finset.univ fun i => iprop(∃ f : Buf (Elt F) ℓ, ℓ ↦[K i]{fullShare} f) := by
  have key : ∀ f : Buf (Elt F) ℓ, (ℓ ↦{fullShare} f : sProp 𝕄)
      ⊢ bigSep Finset.univ fun i => iprop(∃ f : Buf (Elt F) ℓ, ℓ ↦[K i]{fullShare} f) := by
    intro f
    rw [rows_split ℓ K f hK hcov]
    refine bigSep_mono fun i _ => ?_
    show (ℓ ↦[K i]{fullShare} f : sProp 𝕄) ⊢ iprop(∃ f : Buf (Elt F) ℓ, ℓ ↦[K i]{fullShare} f)
    iintro H
    iexists f
    iexact H
  iintro ⟨%f, H⟩
  iapply (key f) $$ H

/-- The rows of a table of two axes cover it. -/
theorem cov2 {n : ℕ} : (Finset.univ : Finset (Fin 16)).biUnion (fun i => band (⟨2, ![8, n]⟩ : Shape) (0 : Fin 2) i.val) = Finset.univ :=
  band_cover (show 8 ≤ 16 by decide)
/-- The rows of a table of three axes cover it. -/
theorem cov3 {n m : ℕ} : (Finset.univ : Finset (Fin 16)).biUnion (fun i => band (⟨3, ![8, n, m]⟩ : Shape) (0 : Fin 3) i.val) = Finset.univ :=
  band_cover (show 8 ≤ 16 by decide)

/-- What the call is given splits into what the tiles are handed. -/
theorem st_split (d : Dev nD) : ST XP d ⊢ bigSep Finset.univ (GO XP d) := by
  unfold GO
  rw [bigSep_sep', bigSep_sep', bigSep_sep', bigSep_sep']
  iintro ⟨Hx, Hn, Hb, Hs, Hc⟩
  isplitl [Hx]
  · iapply (Entails.of_eq (rows_split (xLoc d) (fun i => band S8x1280 (0 : Fin 2) i.val) (XP d) band_disjoint cov2)) $$ Hx
  isplitl [Hn]
  · iapply (rows_some (nLoc d) (fun i => band S8x16 (0 : Fin 2) i.val) band_disjoint cov2) $$ Hn
  isplitl [Hb]
  · iapply (rows_some (bLoc d) (fun i => band S8x128x4 (0 : Fin 3) i.val) band_disjoint cov3) $$ Hb
  isplitl [Hs]
  · iapply (rows_some (sLoc d) (fun i => band S8x128 (0 : Fin 2) i.val) band_disjoint cov2) $$ Hs
  · iapply (rows_some (cLoc d) (fun i => band S8x128 (0 : Fin 2) i.val) band_disjoint cov2) $$ Hc

/-- What the tiles hand back joins into the results. -/
theorem dn_join [∀ e, Nonempty (Elt F e)] (d : Dev nD) : bigSep Finset.univ (TD XP d) ⊢ DN XP d := by
  unfold TD
  rw [bigSep_sep', bigSep_sep', bigSep_sep', bigSep_sep']
  iintro ⟨Hx, Hn, Hb, Hs, Hc⟩
  isplitl [Hx]
  · iapply (Entails.of_eq (rows_split (xLoc d) (fun i => band S8x1280 (0 : Fin 2) i.val) (XP d) band_disjoint cov2).symm) $$ Hx
  isplitl [Hn]
  · iapply (rows_join (nLoc d) (fun i => band S8x16 (0 : Fin 2) i.val) (fun i f => GoodN (XP d) i.val f) band_disjoint cov2
      (fun i X Y h hX hb => (row2_congr hb h).trans (hX hb))) $$ Hn
  isplitl [Hb]
  · iapply (rows_join (bLoc d) (fun i => band S8x128x4 (0 : Fin 3) i.val) (fun i f => GoodB (XP d) i.val f) band_disjoint cov3
      (fun i X Y h hX hb => (congrArg (Placed4 _ _ _) (row3_congr hb h)).mpr (hX hb))) $$ Hb
  isplitl [Hs]
  · iapply (rows_join (sLoc d) (fun i => band S8x128 (0 : Fin 2) i.val) (fun i f => GoodS (XP d) i.val f) band_disjoint cov2
      (fun i X Y h hX hb => (congrArg (Placed1 _ _ _ _) (row2_congr hb h)).mpr (hX hb))) $$ Hs
  · iapply (rows_join (cLoc d) (fun i => band S8x128 (0 : Fin 2) i.val) (fun i f => GoodC (XP d) i.val f) band_disjoint cov2
      (fun i X Y h hX hb => (congrArg (Placed1 (φ := .i32) _ _ _ _) (row2_congr hb h)).mpr (hX hb))) $$ Hc

/-- The call's operands split among the tiles and join again. -/
theorem vecSplit [∀ e, Nonempty (Elt F e)] : (KC (F := F)).VecSplit' (P XP) 0 := by
  intro d c
  show ST XP d ⊢ |={Set.univ}=> iprop((bigSep Finset.univ fun i : Fin ((KC (F := F)).nSub 0) => GO XP d (Fin.cast nSub_zero i))
      ∗ ((bigSep Finset.univ fun i : Fin ((KC (F := F)).nSub 0) => TD XP d (Fin.cast nSub_zero i)) -∗ DN XP d))
  rw [tasks_eq (GO XP d), tasks_eq (TD XP d)]
  iintro H
  imodintro
  isplitl [H]
  · iapply (st_split XP d) $$ H
  iintro H
  iapply (dn_join XP d) $$ H

end Cert.Proof.K
-- ==== Proof.Tile.lean ====
/- One subcore's task at the launch: from what it is handed to what it brings back. -/
module

public import proofs.«01_k».proof.Proof.Pay

@[expose] public section

noncomputable section

namespace Cert.Proof.K

open Cert.KernelIdeal Cert.KernelIdeal.Gen
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx ownSems0 ownBufs ownCells ownRefs mem_ownCells)
open Idealize.ShloMosaic.Tactic

variable {F : FTy → Type}

local notation "𝕄" => MT nD τ sig (HIx 1) (Elt F) ℕ UU ℕ

variable (d : Dev nD) (i : grid0.Coords)

/-! ## The subcore's own semaphores and buffers -/

/-- A transfer semaphore of the subcore's own, as a cell. -/
abbrev cellV (s : DmaSem sig) : GSem nD τ sig := (tV d i, .dma s)

/-- A scoped DMA semaphore is the tile's own. -/
theorem cell_mem (s : DmaSem sig) (h : (SemLoc.dma s : SemLoc sig).isScoped .scVector = true) : cellV d i s ∈ ownCells (tV d i) :=
  (mem_ownCells (g := cellV d i s)).mpr ⟨rfl, h⟩

/-- Different semaphores are different cells. -/
theorem cell_ne {s t : DmaSem sig} (h : s ≠ t) : cellV d i s ≠ cellV d i t := fun e =>
  h (by injection (Prod.ext_iff.mp e).2)

/-- Taking another member out leaves a member in. -/
theorem mem_rest {α : Type} [DecidableEq α] {s : Finset α} {a b : α} (h : a ≠ b) (h' : a ∈ s) : a ∈ s.erase b := Finset.mem_erase.mpr ⟨h, h'⟩

/-- The tile's semaphores are the five of the copies and a rest. -/
theorem ownSems0_V : ∃ R : sProp 𝕄, (ownSems0 (tV d i) : sProp 𝕄)
    = iprop(semVal (tV d i, .dma cc0_scratch6.sem) 0 ∗ semVal (tV d i, .dma cc0_scratch7.sem) 0
      ∗ semVal (tV d i, .dma cc0_scratch8.sem) 0 ∗ semVal (tV d i, .dma cc0_scratch9.sem) 0 ∗ semVal (tV d i, .dma cc0_scratch10.sem) 0 ∗ R) := by
  have m6 := cell_mem d i cc0_scratch6.sem (by decide)
  have m7 := cell_mem d i cc0_scratch7.sem (by decide)
  have m8 := cell_mem d i cc0_scratch8.sem (by decide)
  have m9 := cell_mem d i cc0_scratch9.sem (by decide)
  have m10 := cell_mem d i cc0_scratch10.sem (by decide)
  have n76 := cell_ne d i (s := cc0_scratch7.sem) (t := cc0_scratch6.sem) (by decide)
  have n86 := cell_ne d i (s := cc0_scratch8.sem) (t := cc0_scratch6.sem) (by decide)
  have n96 := cell_ne d i (s := cc0_scratch9.sem) (t := cc0_scratch6.sem) (by decide)
  have nt6 := cell_ne d i (s := cc0_scratch10.sem) (t := cc0_scratch6.sem) (by decide)
  have n87 := cell_ne d i (s := cc0_scratch8.sem) (t := cc0_scratch7.sem) (by decide)
  have n97 := cell_ne d i (s := cc0_scratch9.sem) (t := cc0_scratch7.sem) (by decide)
  have nt7 := cell_ne d i (s := cc0_scratch10.sem) (t := cc0_scratch7.sem) (by decide)
  have n98 := cell_ne d i (s := cc0_scratch9.sem) (t := cc0_scratch8.sem) (by decide)
  have nt8 := cell_ne d i (s := cc0_scratch10.sem) (t := cc0_scratch8.sem) (by decide)
  have nt9 := cell_ne d i (s := cc0_scratch10.sem) (t := cc0_scratch9.sem) (by decide)
  apply Exists.intro
  unfold SparseCore.Cfg.ownSems0
  rw [SparseCore.bigSep_erase' m6, SparseCore.bigSep_erase' (mem_rest n76 m7),
    SparseCore.bigSep_erase' (mem_rest n87 (mem_rest n86 m8)),
    SparseCore.bigSep_erase' (mem_rest n98 (mem_rest n97 (mem_rest n96 m9))),
    SparseCore.bigSep_erase' (mem_rest nt9 (mem_rest nt8 (mem_rest nt7 (mem_rest nt6 m10))))]

/-- A buffer of the subcore's own, as the device names it. -/
abbrev refV (r : Ref sig .scVector) : DevRef τ sig := (Proc.scVector (cV i) (jV i)).devRef r

/-- Different buffers are different references. -/
theorem ref_ne {r s : Ref sig .scVector} (h : r ≠ s) : refV i r ≠ refV i s := fun e => h (Proc.devRef_injective _ e)

/-- A buffer of the tile's is among its own. -/
theorem ref_mem (r : Ref sig .scVector) (h : (refV i r).owner = .proc (Proc.scVector (cV i) (jV i))) :
    refV i r ∈ ownRefs (τ := τ) (sig := sig) (.scVector (cV i) (jV i)) :=
  SparseCore.Cfg.mem_ownRefs_of_owner h

/-- The tile's buffers are the six of the body and a rest. -/
theorem ownBufs_V : ∃ R : sProp 𝕄, (ownBufs (tV d i) : sProp 𝕄)
    = iprop((∃ f, xP d i f) ∗ (∃ f, sP d i f) ∗ (∃ f, bP d i f) ∗ (∃ f, cP d i f) ∗ (∃ f, lP d i f) ∗ (∃ f, nP d i f) ∗ R) := by
  have m0 := ref_mem i cc0_scratch0 rfl
  have m1 := ref_mem i cc0_scratch1 rfl
  have m2 := ref_mem i cc0_scratch2 rfl
  have m3 := ref_mem i cc0_scratch3 rfl
  have m4 := ref_mem i cc0_scratch4 rfl
  have m5 := ref_mem i cc0_scratch5 rfl
  have n10 := ref_ne i (r := cc0_scratch1) (s := cc0_scratch0) (by decide)
  have n20 := ref_ne i (r := cc0_scratch2) (s := cc0_scratch0) (by decide)
  have n30 := ref_ne i (r := cc0_scratch3) (s := cc0_scratch0) (by decide)
  have n40 := ref_ne i (r := cc0_scratch4) (s := cc0_scratch0) (by decide)
  have n50 := ref_ne i (r := cc0_scratch5) (s := cc0_scratch0) (by decide)
  have n21 := ref_ne i (r := cc0_scratch2) (s := cc0_scratch1) (by decide)
  have n31 := ref_ne i (r := cc0_scratch3) (s := cc0_scratch1) (by decide)
  have n41 := ref_ne i (r := cc0_scratch4) (s := cc0_scratch1) (by decide)
  have n51 := ref_ne i (r := cc0_scratch5) (s := cc0_scratch1) (by decide)
  have n32 := ref_ne i (r := cc0_scratch3) (s := cc0_scratch2) (by decide)
  have n42 := ref_ne i (r := cc0_scratch4) (s := cc0_scratch2) (by decide)
  have n52 := ref_ne i (r := cc0_scratch5) (s := cc0_scratch2) (by decide)
  have n43 := ref_ne i (r := cc0_scratch4) (s := cc0_scratch3) (by decide)
  have n53 := ref_ne i (r := cc0_scratch5) (s := cc0_scratch3) (by decide)
  have n54 := ref_ne i (r := cc0_scratch5) (s := cc0_scratch4) (by decide)
  apply Exists.intro
  unfold SparseCore.Cfg.ownBufs
  refine (SparseCore.bigSep_erase' m0).trans ?_
  rw [SparseCore.bigSep_erase' (mem_rest n10 m1), SparseCore.bigSep_erase' (mem_rest n21 (mem_rest n20 m2)),
    SparseCore.bigSep_erase' (mem_rest n32 (mem_rest n31 (mem_rest n30 m3))),
    SparseCore.bigSep_erase' (mem_rest n43 (mem_rest n42 (mem_rest n41 (mem_rest n40 m4)))),
    SparseCore.bigSep_erase' (mem_rest n54 (mem_rest n53 (mem_rest n52 (mem_rest n51 (mem_rest n50 m5)))))]
  rfl

/-! ## The task -/

variable [FloatOps F] (XP : Dev nD → Vec F S8x1280 .f32)

/-- The coordinate of a subcore, as a number below 16. -/
abbrev iV : Fin 16 := ⟨(i 1).val, (i 1).isLt⟩

/-- A subcore that has a row: what it is handed is its rows as its copies name them. -/
theorem go_rows (h1 : k0_cond1 i = 1#1) : GO XP d (iV i) = iprop((xR d i h1 (XP d)) ∗ (∃ f, nR d i h1 f) ∗ (∃ f, bR d i h1 f)
    ∗ (∃ f, sR d i h1 f) ∗ (∃ f, cR d i h1 f)) := by
  unfold GO xR nR bR sR cR
  rw [set_rowX, set_rowN, set_rowB, set_rowS, set_rowC]

/-- Its rows computed are what it brings back. -/
theorem td_rows (h1 : k0_cond1 i = 1#1) :
    iprop(xR d i h1 (XP d) ∗ rowsOut d i h1 ((rowX i h1).view.read (Elt F) (XP d))) ⊢ TD XP d (iV i) := by
  unfold rowsOut xR nR bR sR cR TD
  rw [read_rowX, bV_eq, set_rowX, set_rowN, set_rowB, set_rowS, set_rowC]
  iintro ⟨Hx, ⟨%X1, %e1, Hn⟩, ⟨%X2, %e2, Hb⟩, ⟨%X3, %e3, Hs⟩, ⟨%X4, %e4, Hc⟩⟩
  isplitl [Hx]
  · iexact Hx
  isplitl [Hn]
  · iexists X1
    isplitr
    · ipureintro
      exact fun _ => (read_rowN i h1 X1).symm.trans e1
    · iexact Hn
  isplitl [Hb]
  · iexists X2
    isplitr
    · ipureintro
      exact fun _ => (congrArg (Placed4 _ _ _) (read_rowB i h1 X2)).mp e2
    · iexact Hb
  isplitl [Hs]
  · iexists X3
    isplitr
    · ipureintro
      exact fun _ => (congrArg (Placed1 _ _ _ _) (read_rowS i h1 X3)).mp e3
    · iexact Hs
  · iexists X4
    isplitr
    · ipureintro
      exact fun _ => (congrArg (Placed1 (φ := .i32) _ _ _ _) (read_rowC i h1 X4)).mp e4
    · iexact Hc

/-- A subcore past the eighth brings back what it is handed. -/
theorem go_td (h1 : ¬ (i 1).val < 8) : GO XP d (iV i) ⊢ TD XP d (iV i) := by
  unfold GO TD
  iintro ⟨Hx, ⟨%X1, Hn⟩, ⟨%X2, Hb⟩, ⟨%X3, Hs⟩, ⟨%X4, Hc⟩⟩
  isplitl [Hx]
  · iexact Hx
  isplitl [Hn]
  · iexists X1
    isplitr
    · ipureintro; exact fun h => absurd h h1
    · iexact Hn
  isplitl [Hb]
  · iexists X2
    isplitr
    · ipureintro; exact fun h => absurd h h1
    · iexact Hb
  isplitl [Hs]
  · iexists X3
    isplitr
    · ipureintro; exact fun h => absurd h h1
    · iexact Hs
  · iexists X4
    isplitr
    · ipureintro; exact fun h => absurd h h1
    · iexact Hc

set_option maxHeartbeats 1000000 in
/-- The task of one subcore. -/
theorem tile_body (hF : (KC (F := F)).Facts) (O : CellTallies nD τ sig (HIx 1)) (W : Waits sig (HIx 1)) (hO : ∀ g, O g none = 0) :
    iprop(levAts (KC (F := F)).L (KC (F := F)).lev ∗ emp ∗ GO XP d (iV i)
        ∗ scopedBufs (tV d i) ∗ scopedSems0 (tV d i) ∗ owes (tV d i) O W)
      ⊢ wp frame (wpE (defs₀ (F := F)) 𝒱₀ (tV d i) none) Set.univ (body i)
          fun _ => iprop(TD XP d (iV i) ∗ scopedBufs (tV d i) ∗ scopedSems0 (tV d i)
            ∗ ∃ W', ⌜∀ p ∈ W', p ∈ W ∨ p.2 = none⌝ ∗ owes (tV d i) O W') := by
  obtain ⟨RS, hRS⟩ := ownSems0_V (F := F) d i
  obtain ⟨RB, hRB⟩ := ownBufs_V (F := F) d i
  rw [(KC (F := F)).scopedBufs_V hF d (cV i) (jV i), SparseCore.Cfg.scopedSems0_V (Val := Elt F) d (cV i) (jV i), hRS, hRB]
  by_cases h1 : k0_cond1 i = 1#1
  · rw [body_work i h1, go_rows d i XP h1]
    iintro ⟨#Hlv, -, ⟨Hx, ⟨%XN, Hn⟩, ⟨%XB, Hb⟩, ⟨%XS, Hs⟩, ⟨%XC, Hc⟩⟩, ⟨B0, B1, B2, B3, B4, B5, BR⟩, ⟨S6, S7, S8, S9, S10, SR⟩, HO⟩
    ihave Hmw := (show levAts (KC (F := F)).L (KC (F := F)).lev ⊢ Transfers.MayWaits (tV d i) (default : HIx 1) O from
      (KC (F := F)).mayWaits_none (thr := tV d i) hO) $$ Hlv
    have hw := work_wp d i h1 O W (XP d) XN XB XS XC
    unfold WP at hw
    iapply (hw.trans (wp_wand frame _ _)) $$ [Hmw Hx Hn Hb Hs Hc B0 B1 B2 B3 B4 B5 S6 S7 S8 S9 S10 HO]
    · isplitl [Hmw]
      · iexact Hmw
      isplitl [Hx]
      · iexact Hx
      isplitl [Hn Hb Hs Hc]
      · isplitl [Hn]
        · iexact Hn
        isplitl [Hb]
        · iexact Hb
        isplitl [Hs] <;> iassumption
      isplitl [B0 B1 B2 B3 B4 B5]
      · isplitl [B0]
        · iexact B0
        isplitl [B1]
        · iexact B1
        isplitl [B2]
        · iexact B2
        isplitl [B3]
        · iexact B3
        isplitl [B4] <;> iassumption
      isplitl [S6 S7 S8 S9 S10]
      · isplitl [S6]
        · iexact S6
        isplitl [S7]
        · iexact S7
        isplitl [S8]
        · iexact S8
        isplitl [S9] <;> iassumption
      iexact HO
    iintro %_ ⟨Hx, Hout, ⟨B0, B1, B2, B3, B4, B5⟩, ⟨S6, S7, S8, S9, S10⟩, HO⟩
    isplitl [Hx Hout]
    · iapply (td_rows d i XP h1) $$ [Hx Hout]
      isplitl [Hx] <;> iassumption
    isplitl [B0 B1 B2 B3 B4 B5 BR]
    · isplitl [B0]
      · iexact B0
      isplitl [B1]
      · iexact B1
      isplitl [B2]
      · iexact B2
      isplitl [B3]
      · iexact B3
      isplitl [B4]
      · iexact B4
      isplitl [B5] <;> iassumption
    isplitl [S6 S7 S8 S9 S10 SR]
    · isplitl [S6]
      · iexact S6
      isplitl [S7]
      · iexact S7
      isplitl [S8]
      · iexact S8
      isplitl [S9]
      · iexact S9
      isplitl [S10] <;> iassumption
    iexact HO
  · rw [body_idle i h1]
    iintro ⟨#Hlv, -, Hgo, HB, HS, HO⟩
    rw [wp_pure]
    imodintro
    isplitl [Hgo]
    · iapply (go_td d i XP (fun h => h1 ((cond_iff i).mpr h))) $$ Hgo
    isplitl [HB]
    · iexact HB
    isplitl [HS]
    · iexact HS
    iexists W
    isplitr
    · ipureintro; exact fun p hp => .inl hp
    · iexact HO

end Cert.Proof.K
-- ==== Proof.Host.lean ====
/- The host's operations before the launch and after it, and what the launch reads. -/
module

public import proofs.«01_k».proof.Proof.Tile
public import Idealize.ShloMosaic.Lib.Pipeline.Frame

@[expose] public section

noncomputable section

namespace Cert.Proof.K

open Cert.KernelIdeal Cert.KernelIdeal.Gen
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Tactic

variable {F : FTy → Type}

local notation "𝕄" => MT nD τ sig (HIx 1) (Elt F) ℕ UU ℕ

variable [FloatOps F]

/-- The packing of the launch's input. -/
abbrev opsA : List (HloOp τ sig (Elt F)) :=
  [StableHlo.nullary main_cst (fun i => FloatOps.ofBits .f32 (lit0 (S128.rowMajor i))),
   StableHlo.unary main_arg0 main_v0 ((extractStridedSlice S8x100x8 ![0, 100, 0] · slices_S8x20000x85_S8x100x8_0_100_0) : (⟨S8x20000x85, .f32⟩ : BufTy).Contents (Elt F) → (⟨S8x100x8, .f32⟩ : BufTy).Contents (Elt F)),
   StableHlo.reshape main_v0 main_v1 (rfl : (.f32 : EltTy) = .f32) shapeCasts_S8x100x8_S8x800,
   StableHlo.reshape main_arg1 main_v2 (rfl : (.f32 : EltTy) = .f32) shapeCasts_S4x4_S16,
   StableHlo.unary main_v2 main_v3 (broadcastInDim S16x1 ![0] bcast_S16_S16x1_0 : (⟨S16, .f32⟩ : BufTy).Contents (Elt F) → (⟨S16x1, .f32⟩ : BufTy).Contents (Elt F)),
   StableHlo.unary main_v3 main_v4 (broadcastInDim S16x16 ![0, 1] bcast_S16x1_S16x16_0_1 : (⟨S16x1, .f32⟩ : BufTy).Contents (Elt F) → (⟨S16x16, .f32⟩ : BufTy).Contents (Elt F)),
   StableHlo.reshape main_v4 main_v5 (rfl : (.f32 : EltTy) = .f32) shapeCasts_S16x16_S256,
   StableHlo.nullary main_cst_0 (constant S_ .f32 0x00000000#32),
   StableHlo.unary main_cst_0 main_v6 (broadcastInDim S96 ![] bcast_S_S96 : (⟨S_, .f32⟩ : BufTy).Contents (Elt F) → (⟨S96, .f32⟩ : BufTy).Contents (Elt F)),
   StableHlo.nary ![main_v6, main_v5, main_cst] main_v7 (fun u => (concatenate S480 0 [⟨S96, (u 0 : (⟨S96, .f32⟩ : BufTy).Contents (Elt F))⟩, ⟨S256, (u 1 : (⟨S256, .f32⟩ : BufTy).Contents (Elt F))⟩, ⟨S128, (u 2 : (⟨S128, .f32⟩ : BufTy).Contents (Elt F))⟩] concatenates_S96_S256_S128_S480_d0 : (⟨S480, .f32⟩ : BufTy).Contents (Elt F))),
   StableHlo.unary main_v7 main_v8 (broadcastInDim S1x480 ![1] bcast_S480_S1x480_1 : (⟨S480, .f32⟩ : BufTy).Contents (Elt F) → (⟨S1x480, .f32⟩ : BufTy).Contents (Elt F)),
   StableHlo.unary main_v8 main_v9 (broadcastInDim S8x480 ![0, 1] bcast_S1x480_S8x480_0_1 : (⟨S1x480, .f32⟩ : BufTy).Contents (Elt F) → (⟨S8x480, .f32⟩ : BufTy).Contents (Elt F)),
   StableHlo.binary main_v1 main_v9 main_v10 ((fun a b => concatenate S8x1280 1 [⟨S8x800, a⟩, ⟨S8x480, b⟩] concatenates_S8x800_S8x480_S8x1280_d1) : (⟨S8x800, .f32⟩ : BufTy).Contents (Elt F) → (⟨S8x480, .f32⟩ : BufTy).Contents (Elt F) → (⟨S8x1280, .f32⟩ : BufTy).Contents (Elt F))]

/-- The slices of the launch's results. -/
abbrev opsB : List (HloOp τ sig (Elt F)) :=
  [StableHlo.unary main_v11_0 main_v12 ((extractStridedSlice S8x1 ![0, 0] · slices_S8x16_S8x1_0_0) : (⟨S8x16, .i32⟩ : BufTy).Contents (Elt F) → (⟨S8x1, .i32⟩ : BufTy).Contents (Elt F)),
   StableHlo.unary main_v11_1 main_v13 ((extractStridedSlice S8x101x4 ![0, 0, 0] · slices_S8x128x4_S8x101x4_0_0_0) : (⟨S8x128x4, .f32⟩ : BufTy).Contents (Elt F) → (⟨S8x101x4, .f32⟩ : BufTy).Contents (Elt F)),
   StableHlo.unary main_v11_2 main_v14 ((extractStridedSlice S8x101 ![0, 0] · slices_S8x128_S8x101_0_0) : (⟨S8x128, .f32⟩ : BufTy).Contents (Elt F) → (⟨S8x101, .f32⟩ : BufTy).Contents (Elt F)),
   StableHlo.unary main_v11_3 main_v15 ((extractStridedSlice S8x101 ![0, 0] · slices_S8x128_S8x101_0_0) : (⟨S8x128, .i32⟩ : BufTy).Contents (Elt F) → (⟨S8x101, .i32⟩ : BufTy).Contents (Elt F))]

/-- The program is the packing, the call, and the four slices. -/
theorem main_eq (d : Dev nD) :
    main (F := F) d = StableHlo.seq opsA >>= fun _ => (KC (F := F)).run d 0 >>= fun _ => StableHlo.seq opsB := by
  rw [StableHlo.seq_bind_seqK]
  rfl

/-- The packing's buffers are the TensorCore's. -/
theorem opsA_sub : ∀ op ∈ opsA (F := F), op.bufs ⊆ Pipeline.ucRefs τ sig := by
  intro op h
  refine Pipeline.sub_ucRefs op ?_
  simp only [opsA, List.mem_cons, List.not_mem_nil, _root_.or_false] at h
  rcases h with rfl | rfl | rfl | rfl | rfl | rfl | rfl | rfl | rfl | rfl | rfl | rfl | rfl <;> simp

/-- The slices' buffers are the TensorCore's. -/
theorem opsB_sub : ∀ op ∈ opsB (F := F), op.bufs ⊆ Pipeline.ucRefs τ sig := by
  intro op h
  refine Pipeline.sub_ucRefs op ?_
  simp only [opsB, List.mem_cons, List.not_mem_nil, _root_.or_false] at h
  rcases h with rfl | rfl | rfl | rfl <;> simp

/-- The packing allocates nothing. -/
theorem opsA_fresh : ∀ op ∈ opsA (F := F), op.fresh = ∅ := by
  intro op h
  simp only [opsA, List.mem_cons, List.not_mem_nil, _root_.or_false] at h
  rcases h with rfl | rfl | rfl | rfl | rfl | rfl | rfl | rfl | rfl | rfl | rfl | rfl | rfl <;> rfl

/-- The slices allocate nothing. -/
theorem opsB_fresh : ∀ op ∈ opsB (F := F), op.fresh = ∅ := by
  intro op h
  simp only [opsB, List.mem_cons, List.not_mem_nil, _root_.or_false] at h
  rcases h with rfl | rfl | rfl | rfl <;> rfl

/-- The packed input: the columns of the candidates, zeros, each number of the conversion matrix sixteen times, and the
    batch row of each selected entry. -/
def packV (x : Vec F S8x20000x85 .f32) (m : Vec F S4x4 .f32) : Vec F S8x1280 .f32 :=
  concatenate S8x1280 1
    [⟨S8x800, shapeCast S8x800 (extractStridedSlice S8x100x8 ![0, 100, 0] x slices_S8x20000x85_S8x100x8_0_100_0) shapeCasts_S8x100x8_S8x800⟩,
     ⟨S8x480, broadcastInDim S8x480 ![0, 1] bcast_S1x480_S8x480_0_1 (broadcastInDim S1x480 ![1] bcast_S480_S1x480_1
       (concatenate S480 0
         [⟨S96, broadcastInDim S96 ![] bcast_S_S96 (constant (F := F) S_ .f32 0x00000000#32)⟩,
          ⟨S256, shapeCast S256 (broadcastInDim S16x16 ![0, 1] bcast_S16x1_S16x16_0_1 (broadcastInDim S16x1 ![0] bcast_S16_S16x1_0
            (shapeCast S16 m shapeCasts_S4x4_S16))) shapeCasts_S16x16_S256⟩,
          ⟨S128, fun i => FloatOps.ofBits .f32 (lit0 (S128.rowMajor i))⟩] concatenates_S96_S256_S128_S480_d0))⟩]
    concatenates_S8x800_S8x480_S8x1280_d1

/-- After the packing the call's operand is the packed input. -/
theorem afterA_pack (V : Valuation τ sig (Elt F)) :
    StableHlo.after opsA V (Proc.devRef .tc main_v10) = packV (V (Proc.devRef .tc main_arg0)) (V (Proc.devRef .tc main_arg1)) := by
  unfold opsA
  after_results_simp
  rfl

end Cert.Proof.K
-- ==== Proof.Launch.lean ====
/- The launch as a whole: the subcores' obligation, the program's `main`, and every run of the program. -/
module

public import proofs.«01_k».proof.Proof.Host

@[expose] public section

noncomputable section

namespace Cert.Proof.K

open Cert.KernelIdeal Cert.KernelIdeal.Gen
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.StableHlo (held)
open Idealize.ShloMosaic.Tactic

variable {F : FTy → Type}

local notation "𝕄" => MT nD τ sig (HIx 1) (Elt F) ℕ UU ℕ

variable [FloatOps F]

variable (XP : Dev nD → Vec F S8x1280 .f32)

/-! ## The subcores' obligation -/

theorem facts : (KC (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The grid point of SparseCore `c` and subcore `s`. -/
def pt (c : Fin (grid0.bound 0)) (s : Fin (grid0.bound 1)) : grid0.Coords :=
  fun | 0 => c | 1 => s | ⟨_ + 2, h⟩ => absurd h (Nat.not_lt.2 (Nat.le_add_left _ _))

/-- What a tile runs is the body at its place. -/
theorem defs_tile (c : Fin τ.nSC) (s : Fin τ.nSub) :
    defs₀ (F := F) (.scVector c s) 0 () = SparseCore.onTile hcore0 hsub0 (fun c s => body (pt c s)) ⟨⟩ c s := rfl

/-- What a subcore still waits on after its task, in the launch's terms. -/
theorem owes_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨H1, H2, H3, %W', %h, H4⟩
  isplitl [H1]
  · iexact H1
  isplitl [H2]
  · iexact H2
  isplitl [H3]
  · iexact H3
  iexists W'
  isplitr
  · ipureintro; exact fun p hp => (h p hp).imp_right Or.inl
  · iexact H4

set_option maxRecDepth 16384 in
/-- Every subcore's task meets its part of the launch. -/
theorem tileObl : (KC (F := F)).TileObl DC 𝒱 (P XP) v₀ 0 := by
  intro d c i O W hO _ _
  simp only [show (P XP).ox = fun _ _ => 0 from rfl, add_zero]
  have hci : ((KC (F := F)).core 0 c).val < grid0.bound 0 ∧ ((KC (F := F)).sub 0 i).val < grid0.bound 1 := ⟨c.isLt, i.isLt⟩
  change _ ⊢ wp _ _ _ (Pipeline.liftProg (defs₀ (F := F) (.scVector ((KC (F := F)).core 0 c) ((KC (F := F)).sub 0 i)) 0 ())) _
  refine BI.Entails.trans ?_ (Pipeline.wp_liftProg (DC (F := F)) (Pipeline.defs_kernel pcfgs defs₀) 𝒱₀ _ Set.univ none _ _)
  rw [defs_tile]
  simp only [SparseCore.onTile, hci, and_self, ↓reduceDIte]
  exact (tile_body d (pt ⟨_, hci.1⟩ ⟨_, hci.2⟩) XP facts O W hO).trans (wp_mono frame _ _ fun _ => owes_weaken)

/-! ## The ghost state at the start -/

def u₀ : UU := (initOf (KC (F := F)).hsCells (KC (F := F)).hsToks, 1)

/-- The ghost state the run starts with. -/
theorem start_ghost : (ownU (u₀ (F := F)) : sProp 𝕄)
    ⊢ |={Set.univ}=> iprop(BI.own (EH (initOf (KC (F := F)).hsCells (KC (F := F)).hsToks)) ∗ (bigSep Finset.univ fun _ : Dev nD => iprop(emp))
        ∗ bigSep Finset.univ fun thr : Thread nD τ => bigSep Finset.univ fun q : Fin 1 => (P XP).x q thr) := by
  have he : (bigSep Finset.univ fun thr : Thread nD τ => bigSep Finset.univ fun q : Fin 1 => (P XP).x q thr) = (iprop(emp) : sProp 𝕄) :=
    (bigSep_congr fun _ _ => bigSep_univ_of_subsingleton (0 : Fin 1)).trans (bigSep_emp_const _)
  rw [he, show (bigSep Finset.univ fun _ : Dev nD => iprop(emp)) = (iprop(emp) : sProp 𝕄) from bigSep_emp_const _]
  unfold u₀
  iintro H
  ihave H' := (ownU_pair (initOf (KC (F := F)).hsCells (KC (F := F)).hsToks) (1 : Counters)) $$ H
  icases H' with ⟨H, -⟩
  imodintro
  isplitl [H]
  · iexact H
  isplitr <;> iempintro

/-! ## `main` -/

variable (m : (ℓ : Loc nD τ sig) → Buf (Elt F) ℓ) (ρ : Dev nD → PrngReg)

/-- The packed input of a launch from memory `m`. -/
abbrev XPm (d : Dev nD) : Vec F S8x1280 .f32 := packV (m (d, Proc.devRef .tc main_arg0)) (m (d, Proc.devRef .tc main_arg1))

/-- What a final state holds: the arguments as they were; the results cut from rows computed from the packed input. -/
def FinV (d : Dev nD) (V : Valuation τ sig (Elt F)) : Prop :=
  V (Proc.devRef .tc main_arg0) = m (d, Proc.devRef .tc main_arg0)
  ∧ V (Proc.devRef .tc main_arg1) = m (d, Proc.devRef .tc main_arg1)
  ∧ (∃ g, (∀ i : Fin 16, GoodN (XPm m d) i.val g)
      ∧ V (Proc.devRef .tc main_v12) = extractStridedSlice S8x1 ![0, 0] g slices_S8x16_S8x1_0_0)
  ∧ (∃ g, (∀ i : Fin 16, GoodB (XPm m d) i.val g)
      ∧ V (Proc.devRef .tc main_v13) = extractStridedSlice S8x101x4 ![0, 0, 0] g slices_S8x128x4_S8x101x4_0_0_0)
  ∧ (∃ g, (∀ i : Fin 16, GoodS (XPm m d) i.val g)
      ∧ V (Proc.devRef .tc main_v14) = extractStridedSlice S8x101 ![0, 0] g slices_S8x128_S8x101_0_0)
  ∧ (∃ g, (∀ i : Fin 16, GoodC (XPm m d) i.val g)
      ∧ V (Proc.devRef .tc main_v15) = extractStridedSlice S8x101 ![0, 0] g slices_S8x128_S8x101_0_0)

/-- What is held when the program is over. -/
abbrev FIN (d : Dev nD) : sProp 𝕄 := iprop(∃ V, ⌜FinV m d V⌝ ∗ held (d.tc : Thread nD τ) (Pipeline.ucRefs τ sig) V)

/-- The buffers of the call. -/
abbrev callRefs : Finset (DevRef τ sig) :=
  {Proc.devRef .tc main_v10, Proc.devRef .tc main_v11_0, Proc.devRef .tc main_v11_1, Proc.devRef .tc main_v11_2, Proc.devRef .tc main_v11_3}

/-- The call's buffers are the TensorCore's. -/
theorem callRefs_sub : callRefs ⊆ Pipeline.ucRefs τ sig := by decide

/-- Holding the call's buffers is holding each. -/
theorem held_call (d : Dev nD) (V : Valuation τ sig (Elt F)) :
    (held (d.tc : Thread nD τ) callRefs V : sProp 𝕄)
      = iprop((xLoc d ↦{fullShare} V (Proc.devRef .tc main_v10)) ∗ (nLoc d ↦{fullShare} V (Proc.devRef .tc main_v11_0))
        ∗ (bLoc d ↦{fullShare} V (Proc.devRef .tc main_v11_1)) ∗ (sLoc d ↦{fullShare} V (Proc.devRef .tc main_v11_2))
        ∗ (cLoc d ↦{fullShare} V (Proc.devRef .tc main_v11_3))) := by
  unfold held callRefs
  rw [SparseCore.bigSep_insert' (by decide), SparseCore.bigSep_insert' (by decide), SparseCore.bigSep_insert' (by decide),
    SparseCore.bigSep_insert' (by decide), bigSep_singleton]

/-- The contents after the call, from the contents before it and the four results. -/
def callV (V : Valuation τ sig (Elt F)) (gn : IVec S8x16 32) (gb : Vec F S8x128x4 .f32) (gs : Vec F S8x128 .f32) (gc : IVec S8x128 32) :
    Valuation τ sig (Elt F) :=
  Function.update (Function.update (Function.update (Function.update V (Proc.devRef .tc main_v11_0) gn)
    (Proc.devRef .tc main_v11_1) gb) (Proc.devRef .tc main_v11_2) gs) (Proc.devRef .tc main_v11_3) gc

section callV
variable (V : Valuation τ sig (Elt F)) (gn : IVec S8x16 32) (gb : Vec F S8x128x4 .f32) (gs : Vec F S8x128 .f32) (gc : IVec S8x128 32)

/-- The call changes its own buffers alone. -/
theorem callV_ne {b : DevRef τ sig} (h : b ∉ callRefs) : callV V gn gb gs gc b = V b := by
  simp only [callRefs, Finset.mem_insert, Finset.mem_singleton, not_or] at h
  unfold callV
  rw [Function.update_of_ne h.2.2.2.2, Function.update_of_ne h.2.2.2.1, Function.update_of_ne h.2.2.1, Function.update_of_ne h.2.1]
/-- The call leaves the packed input. -/
theorem callV_x : callV V gn gb gs gc (Proc.devRef .tc main_v10) = V (Proc.devRef .tc main_v10) := by
  unfold callV
  rw [Function.update_of_ne (by decide), Function.update_of_ne (by decide), Function.update_of_ne (by decide), Function.update_of_ne (by decide)]
/-- After the call the counts are the ones written. -/
theorem callV_n : callV V gn gb gs gc (Proc.devRef .tc main_v11_0) = gn := by
  unfold callV
  rw [Function.update_of_ne (by decide), Function.update_of_ne (by decide), Function.update_of_ne (by decide), Function.update_self]
/-- After the call the boxes are the ones written. -/
theorem callV_b : callV V gn gb gs gc (Proc.devRef .tc main_v11_1) = gb := by
  unfold callV
  rw [Function.update_of_ne (by decide), Function.update_of_ne (by decide), Function.update_self]
/-- After the call the scores are the ones written. -/
theorem callV_s : callV V gn gb gs gc (Proc.devRef .tc main_v11_2) = gs := by
  unfold callV
  rw [Function.update_of_ne (by decide), Function.update_self]
/-- After the call the labels are the ones written. -/
theorem callV_c : callV V gn gb gs gc (Proc.devRef .tc main_v11_3) = gc := by
  unfold callV
  rw [Function.update_self]
end callV

/-- The launch contents of a device. -/
abbrev Vm (d : Dev nD) : Valuation τ sig (Elt F) := fun b => m (d, b)

/-- The packing leaves the arguments. -/
theorem afterA_arg (V : Valuation τ sig (Elt F)) :
    StableHlo.after opsA V (Proc.devRef .tc main_arg0) = V (Proc.devRef .tc main_arg0)
      ∧ StableHlo.after opsA V (Proc.devRef .tc main_arg1) = V (Proc.devRef .tc main_arg1) := by
  unfold opsA
  constructor <;> after_results_simp

/-- The slices leave the arguments, and each result is its slice. -/
theorem afterB_vals (V : Valuation τ sig (Elt F)) :
    StableHlo.after opsB V (Proc.devRef .tc main_arg0) = V (Proc.devRef .tc main_arg0)
    ∧ StableHlo.after opsB V (Proc.devRef .tc main_arg1) = V (Proc.devRef .tc main_arg1)
    ∧ StableHlo.after opsB V (Proc.devRef .tc main_v12)
        = extractStridedSlice S8x1 ![0, 0] (V (Proc.devRef .tc main_v11_0)) slices_S8x16_S8x1_0_0
    ∧ StableHlo.after opsB V (Proc.devRef .tc main_v13)
        = extractStridedSlice S8x101x4 ![0, 0, 0] (V (Proc.devRef .tc main_v11_1)) slices_S8x128x4_S8x101x4_0_0_0
    ∧ StableHlo.after opsB V (Proc.devRef .tc main_v14)
        = extractStridedSlice S8x101 ![0, 0] (V (Proc.devRef .tc main_v11_2)) slices_S8x128_S8x101_0_0
    ∧ StableHlo.after opsB V (Proc.devRef .tc main_v15)
        = extractStridedSlice S8x101 ![0, 0] (V (Proc.devRef .tc main_v11_3)) slices_S8x128_S8x101_0_0 := by
  unfold opsB
  refine ⟨?_, ?_, ?_, ?_, ?_, ?_⟩ <;> after_results_simp

/-- The final contents, given the four results of the call. -/
theorem fin_of_good (d : Dev nD) (gn : IVec S8x16 32) (gb : Vec F S8x128x4 .f32) (gs : Vec F S8x128 .f32) (gc : IVec S8x128 32)
    (hn : ∀ i : Fin 16, GoodN (XPm m d) i.val gn) (hb : ∀ i : Fin 16, GoodB (XPm m d) i.val gb)
    (hs : ∀ i : Fin 16, GoodS (XPm m d) i.val gs) (hc : ∀ i : Fin 16, GoodC (XPm m d) i.val gc) :
    FinV m d (StableHlo.after opsB (callV (StableHlo.after opsA (Vm m d)) gn gb gs gc)) := by
  obtain ⟨h0, h1, h2, h3, h4, h5⟩ := afterB_vals (callV (StableHlo.after opsA (Vm m d)) gn gb gs gc)
  obtain ⟨a0, a1⟩ := afterA_arg (Vm m d)
  refine ⟨?_, ?_, ⟨gn, hn, ?_⟩, ⟨gb, hb, ?_⟩, ⟨gs, hs, ?_⟩, ⟨gc, hc, ?_⟩⟩
  · rw [h0, callV_ne _ _ _ _ _ (by decide), a0]
  · rw [h1, callV_ne _ _ _ _ _ (by decide), a1]
  · rw [h2, callV_n]
  · rw [h3, callV_b]
  · rw [h4, callV_s]
  · rw [h5, callV_c]

/-- One SparseCore starts the call. -/
theorem st_eq (d : Dev nD) : (bigSep Finset.univ fun c : Fin ((KC (F := F)).nCore 0) => (P XP).st 0 d c) = ST XP d :=
  bigSep_univ_of_subsingleton (0 : Fin 1)
/-- One SparseCore ends it. -/
theorem dn_eq (d : Dev nD) : (bigSep Finset.univ fun c : Fin ((KC (F := F)).nCore 0) => (P XP).dn 0 d c) = DN XP d :=
  bigSep_univ_of_subsingleton (0 : Fin 1)

/-- The call's buffers as the launch wants them. -/
theorem call_in (d : Dev nD) :
    (held (d.tc : Thread nD τ) callRefs (StableHlo.after opsA (Vm m d)) : sProp 𝕄) ⊢ ST (XPm m) d := by
  rw [held_call, afterA_pack]
  iintro ⟨Hx, Hn, Hb, Hs, Hc⟩
  isplitl [Hx]
  · iexact Hx
  isplitl [Hn]
  · iexists (StableHlo.after opsA (Vm m d) (Proc.devRef .tc main_v11_0)); iexact Hn
  isplitl [Hb]
  · iexists (StableHlo.after opsA (Vm m d) (Proc.devRef .tc main_v11_1)); iexact Hb
  isplitl [Hs]
  · iexists (StableHlo.after opsA (Vm m d) (Proc.devRef .tc main_v11_2)); iexact Hs
  · iexists (StableHlo.after opsA (Vm m d) (Proc.devRef .tc main_v11_3)); iexact Hc

/-- The launch's results put back among the other buffers. -/
theorem call_out (d : Dev nD) :
    iprop(DN (XPm m) d ∗ held (d.tc : Thread nD τ) (Pipeline.ucRefs τ sig \ callRefs) (StableHlo.after opsA (Vm m d)))
      ⊢ (iprop(∃ V, ⌜FinV m d (StableHlo.after opsB V)⌝ ∗ held (d.tc : Thread nD τ) (Pipeline.ucRefs τ sig) V) : sProp 𝕄) := by
  iintro ⟨⟨Hx, ⟨%gn, %hn, Hn⟩, ⟨%gb, %hb, Hb⟩, ⟨%gs, %hs, Hs⟩, ⟨%gc, %hc, Hc⟩⟩, Hrest⟩
  iexists (callV (StableHlo.after opsA (Vm m d)) gn gb gs gc)
  isplitr
  · ipureintro; exact fin_of_good m d gn gb gs gc hn hb hs hc
  rw [StableHlo.held_sub_split (d.tc : Thread nD τ) callRefs_sub, held_call, callV_x, callV_n, callV_b, callV_s, callV_c, afterA_pack,
    StableHlo.held_congr (d.tc : Thread nD τ) (V := callV (StableHlo.after opsA (Vm m d)) gn gb gs gc) (V' := StableHlo.after opsA (Vm m d))
      (fun b hb => callV_ne _ _ _ _ _ (Finset.mem_sdiff.mp hb).2)]
  isplitr [Hrest]
  · isplitl [Hx]
    · iexact Hx
    isplitl [Hn]
    · iexact Hn
    isplitl [Hb]
    · iexact Hb
    isplitl [Hs]
    · iexact Hs
    · iexact Hc
  · iexact Hrest

/-- `main` on a device: the packing, the launch, the slices. -/
theorem hmain (κ : GSem nD τ sig → ℕ) (d : Dev nD) :
    iprop((KC (F := F)).ctx EH (P (XPm m)) κ ∗ (KC (F := F)).tcSt EH d 0 ∗ (KC (F := F)).tcRes m ρ d ∗ emp)
      ⊢ wp frame (wpE ((KC (F := F)).defs (DC (F := F))) 𝒱 (SparseCore.T d) none) Set.univ (main d)
          fun _ => iprop((KC (F := F)).tcSt EH d 1 ∗ FIN m d ∗ (KC (F := F)).tcEnd d) := by
  unfold SparseCore.Cfg.tcRes SparseCore.Cfg.tcEnd
  rw [show (unscopedBufs d (fun b => m ((SparseCore.T d).loc b)) : sProp 𝕄) = held (d.tc : Thread nD τ) (Pipeline.ucRefs τ sig) (Vm m d)
    from Pipeline.unscopedBufs_held d (Vm m d), main_eq, show (StableHlo.seq opsB : Prog (TpuEff nD τ sig (Elt F) _ .tc) PUnit)
      = StableHlo.seq opsB >>= pure from (bind_pure _).symm]
  iintro ⟨#Hctx, Hst, ⟨Hb, Hheld, Hts, -⟩, -⟩
  iapply (StableHlo.wp_seq 𝒱 none Set.univ d (Pipeline.ucRefs τ sig) _ opsA opsA_sub opsA_fresh (Vm m d)) $$ [Hb Hheld]
  · isplitl [Hb] <;> iassumption
  iintro ⟨Hb, Hheld⟩
  ihave H := (Entails.of_eq (StableHlo.held_sub_split (d.tc : Thread nD τ) callRefs_sub (StableHlo.after opsA (Vm m d)))) $$ Hheld
  icases H with ⟨Hcall, Hrest⟩
  ihave Hcall := (call_in m d) $$ Hcall
  rw [wp_bind]
  iapply ((KC (F := F)).wp_run (DC (F := F)) 𝒱 (EH := EH) (P := P (XPm m)) κ d 0) $$ [Hst Hcall Hrest Hb Hts]
  isplitr
  · iexact Hctx
  isplitl [Hst]
  · iexact Hst
  isplitl [Hcall]
  · rw [st_eq]; iexact Hcall
  iintro ⟨Hst, Hdn⟩
  ihave Hdn := (Entails.of_eq (dn_eq (XPm m) d)) $$ Hdn
  ihave H := (call_out m d) $$ [Hdn Hrest]
  · isplitl [Hdn] <;> iassumption
  icases H with ⟨%V, %hV, Hheld⟩
  iapply (StableHlo.wp_seq 𝒱 none Set.univ d (Pipeline.ucRefs τ sig) _ opsB opsB_sub opsB_fresh V) $$ [Hb Hheld]
  · isplitl [Hb] <;> iassumption
  iintro ⟨Hb, Hheld⟩
  rw [wp_pure]
  imodintro
  isplitl [Hst]
  · iexact Hst
  isplitl [Hheld]
  · iexists (StableHlo.after opsB V)
    isplitr
    · ipureintro; exact hV
    · iexact Hheld
  isplitl [Hb] <;> iassumption

/-! ## The final memory -/

/-- Buffers held at a valuation: the machine's memory agrees with it. -/
theorem held_agree (d : Dev nD) (S : Finset (DevRef τ sig)) (V : Valuation τ sig (Elt F)) (s' : Phys nD τ sig (Elt F)) :
    iprop(held (d.tc : Thread nD τ) S V ∗ SI s') ⊢ (⌜∀ b ∈ S, s'.mem.mem (d, b) = V b⌝ : sProp 𝕄) := by
  have one : ∀ b : {b // b ∈ S}, iprop(held (d.tc : Thread nD τ) S V ∗ SI s') ⊢ (⌜s'.mem.mem (d, b.1) = V b.1⌝ : sProp 𝕄) := by
    intro b
    have hb : (held (d.tc : Thread nD τ) S V : sProp 𝕄) ⊢ ((d, b.1) : Loc nD τ sig) ↦{fullShare} V b.1 := bigSep_elim b.2
    iintro ⟨H, HS⟩
    ihave H := hb $$ H
    ihave H := (SI_pointsTo_agree (st := s') (ℓ := ((d, b.1) : Loc nD τ sig)) (I := Finset.univ) (q := fullShare) (f := V b.1)) $$ [HS H]
    · isplitl [HS] <;> iassumption
    icases H with %h
    ipureintro
    exact funext fun i => h i (Finset.mem_univ i)
  exact ((Laws.forall_intro one).trans Laws.pure_forall.2).trans (Laws.pure_mono fun h b hb => h ⟨b, hb⟩)

/-- What a final memory satisfies. -/
def fq (d : Dev nD) (s' : Phys nD τ sig (Elt F)) : Prop := FinV m d fun b => s'.mem.mem (d, b)

/-- What is held at the end says so of the final memory. -/
theorem hfin (d : Dev nD) (s' : Phys nD τ sig (Elt F)) : iprop(FIN m d ∗ SI s') ⊢ (⌜fq m d s'⌝ : sProp 𝕄) := by
  iintro ⟨⟨%V, %hV, Hheld⟩, HS⟩
  ihave H := (held_agree d (Pipeline.ucRefs τ sig) V s') $$ [Hheld HS]
  · isplitl [Hheld] <;> iassumption
  icases H with %h
  ipureintro
  unfold fq FinV
  unfold FinV at hV
  beta_reduce
  rw [h _ (by decide), h _ (by decide), h _ (by decide), h _ (by decide), h _ (by decide), h _ (by decide)]
  exact hV

/-- A run's end: on every device the final contents are as stated, and every semaphore reads zero. -/
def QC : PUnit × MemSt nD τ sig (Elt F) → Prop := fun r => (∀ d : Dev nD, FinV m d fun b => r.2.mem (d, b)) ∧ r.2.sem = fun _ => 0

/-- Every run of the program ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := KC (F := F)) (D := DC (F := F)) (𝒱 := 𝒱) (EH := EH) (P := P (XPm m)) (A := ∅) facts v₀
    (fun q hq => match q with | 0 => nomatch hq)
    (fun q _ => match q with | 0 => tileObl (XPm m))
    (fun q _ => match q with | 0 => SparseCore.Cfg.VecSplit.of_plain (vecSplit (XPm m)))
    m ρ main (fun _ => iprop(emp)) (FIN m) (u₀ (F := F)) (sep_elim_left.trans (start_ghost (XPm m))) (hmain m ρ) (fq m) (hfin m) (QC m)
    (fun _ h hz => ⟨h, hz⟩)

end Cert.Proof.K
-- ==== Proof.Frames.lean ====
/- The frames: each program runs to its end with its arguments unchanged and every semaphore back at zero. -/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem

/-- The kernel as it is compiled. -/
theorem frame_kernel : Cert.quiescent_Kernel := fun m ρ _ =>
  (θ_run (Cert.KernelIdeal.defs (F := Bits)) _ _).mono (fun _ h => ⟨fun c => ⟨(h.1 c).1, (h.1 c).2.1⟩, h.2⟩) (K.run_main (F := Bits) m ρ)

/-- The kernel at the extended reals. -/
theorem frame_kernelIdeal : Cert.quiescent_KernelIdeal := fun m ρ _ =>
  (θ_run (Cert.KernelIdeal.defs (F := Ideal)) _ _).mono (fun _ h => ⟨fun c => ⟨(h.1 c).1, (h.1 c).2.1⟩, h.2⟩) (K.run_main (F := Ideal) m ρ)

/-- The reference. -/
theorem frame_referenceIdeal : Cert.quiescent_ReferenceIdeal := fun m ρ _ =>
  (θ_run (Cert.ReferenceIdeal.defs (F := Ideal)) _ _).mono
    (fun r h => ⟨fun c => ⟨(h c).2.2.2.2.1, (h c).2.2.2.2.2⟩, sem_eq_zero_of_no_sems (by decide) r.2⟩)
    (Cert.ReferenceIdeal.Value.run (F := Ideal) m ρ)

end Cert.Proof
-- ==== Proof.Order.lean ====
/- Sorting scores in descending order, stably: where an entry lands is how many entries come before it. -/
module

public import Idealize.ShloMosaic.Lib.SortFacts
public import Mathlib.Data.EReal.Basic

@[expose] public section

namespace Cert.Proof.K

open Idealize.ShloMosaic

section

variable {n : ℕ} (s : Fin n → EReal)

/-- Entry `k` comes before entry `e`: its score is greater, or the same and it stands earlier. -/
def Before (k e : Fin n) : Prop := s e < s k ∨ (s k = s e ∧ k < e)

noncomputable instance (k e : Fin n) : Decidable (Before s k e) := Classical.propDecidable _

/-- No entry comes before itself. -/
theorem before_irrefl (e : Fin n) : ¬ Before s e e := by
  rintro (h | ⟨_, h⟩) <;> exact lt_irrefl _ h

/-- Coming before is transitive. -/
theorem before_trans {a b c : Fin n} (h : Before s a b) (h' : Before s b c) : Before s a c := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

/-- Of two entries one comes before the other. -/
theorem before_total {a b : Fin n} (h : a ≠ b) : Before s a b ∨ Before s b a := by
  rcases lt_trichotomy (s a) (s b) with h' | h' | h'
  · exact .inr (.inl h')
  · rcases lt_or_gt_of_ne h with hl | hl
    · exact .inl (.inr ⟨h', hl⟩)
    · exact .inr (.inr ⟨h'.symm, hl⟩)
  · exact .inl (.inl h')

/-- How many entries come before entry `e`. -/
noncomputable def rankOf (e : Fin n) : ℕ := (Finset.univ.filter fun k => Before s k e).card

/-- Two relations that say the same of every later element against an earlier one sort an increasing
    list in one way. -/
theorem stableSort_congr_later (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_congr_later R R' h l hl.2]
    exact insertBefore_congr R R' a _ fun b hb => h a b (hl.1 b ((perm_stableSort R' l).mem_iff.mp hb))

/-- The stable sort by descending score is the sort by `Before`. -/
theorem sortedFrom_eq_before (R : Fin n → Fin n → Bool) (hR : ∀ k k', R k k' = true ↔ s k' < s k) :
    sortedFrom R = sortedFrom fun k k' => decide (Before s k k') := by
  have h : sortPositions n R = sortPositions n fun k k' => decide (Before s k k') := by
    refine stableSort_congr_later _ _ (fun a b hab => ?_) _ (List.pairwise_lt_finRange n)
    rw [Bool.eq_iff_iff, hR, decide_eq_true_iff]
    exact ⟨.inl, fun h => h.elim id fun h' => absurd (hab.trans h'.2) (lt_irrefl _)⟩
  funext k
  have hget : ∀ (l l' : List (Fin n)) (hl : n = l.length) (hl' : n = l'.length), l = l' → l.get (k.cast hl) = l'.get (k.cast hl') := by
    rintro l _ hl hl' rfl; rfl
  exact hget _ _ _ _ h

/-- The stable sort by descending score puts an entry after exactly those that come before it. -/
theorem rankOf_sorted (R : Fin n → Fin n → Bool) (hR : ∀ k k', R k k' = true ↔ s k' < s k) (p : Fin n) :
    rankOf s (sortedFrom R p) = p.val := by
  rw [sortedFrom_eq_before s R hR]
  generalize hB : (fun k k' => decide (Before s k k')) = B
  have hBt : ∀ a b, B a b = true ↔ Before s a b := fun a b => by rw [← hB]; exact decide_eq_true_iff
  have hBf : ∀ a b, B a b = false ↔ ¬ Before s a b := fun a b => by rw [← hBt, Bool.not_eq_true]
  have hno : ∀ i j : Fin n, i < j → ¬ Before s (sortedFrom B j) (sortedFrom B i) := by
    intro i j hij
    rw [← hBf]
    refine sortedFrom_noInversion B B (fun a b hab => ?_) (fun _ _ h => h) (fun a b c hab hbc => ?_) i j hij
    · rw [hBf]
      exact fun h => before_irrefl s a (before_trans s ((hBt _ _).mp hab) h)
    · rw [hBf] at hab hbc ⊢
      intro hac
      by_cases e : a = b
      · subst e; exact hbc hac
      · rcases before_total s e with h | h
        · exact hab h
        · exact hbc (before_trans s h hac)
  have hinj := sortedFrom_injective B
  have hiff : ∀ i, Before s (sortedFrom B i) (sortedFrom B p) ↔ i < p := by
    intro i
    constructor
    · intro h
      rcases lt_trichotomy i p with hl | hl | hl
      · exact hl
      · subst hl; exact absurd h (before_irrefl s _)
      · exact absurd h (hno p i hl)
    · intro hl
      rcases before_total s (hinj.ne hl.ne) with h | h
      · exact h
      · exact absurd h (hno i p hl)
  have hset : (Finset.univ.filter fun k => Before s k (sortedFrom B p)) = (Finset.Iio p).image (sortedFrom B) := by
    ext k
    obtain ⟨i, rfl⟩ := sortedFrom_surjective B k
    simp only [Finset.mem_filter, Finset.mem_univ, true_and, Finset.mem_image, Finset.mem_Iio, hiff]
    exact ⟨fun h => ⟨i, h, rfl⟩, fun ⟨j, hj, e⟩ => hinj e ▸ hj⟩
  rw [rankOf, hset, Finset.card_image_of_injective _ hinj, Fin.card_Iio]

/-- No two entries have the same number before them. -/
theorem rankOf_injective : Function.Injective (rankOf s) := by
  intro a b h
  by_contra hne
  have key : ∀ {a b : Fin n}, Before s a b → rankOf s a < rankOf s b := by
    intro a b hab
    refine Finset.card_lt_card ⟨fun k hk => ?_, fun hs => ?_⟩
    · simp only [Finset.mem_filter, Finset.mem_univ, true_and] at hk ⊢
      exact before_trans s hk hab
    · have := hs (x := a) (by simpa using hab)
      simp only [Finset.mem_filter, Finset.mem_univ, true_and] at this
      exact before_irrefl s a this
  rcases before_total s hne with h' | h'
  · exact (key h').ne h
  · exact (key h').ne' h

end

end Cert.Proof.K
-- ==== Proof.Spec.lean ====
/- One batch row's detections before they are sorted: score, box and label of each entry. -/
module

public import proofs.«01_k».proof.Proof.Order
public import proofs.«01_k».proof.Defs
public import Idealize.ShloMosaic.Lib.Pointwise

@[expose] public section

noncomputable section

namespace Cert.Proof.S

open Idealize.ShloMosaic

/-- The candidates, and the conversion matrix. -/
abbrev Cand := Vec Ideal ⟨3, ![8, 20000, 85]⟩ .f32
abbrev Conv := Vec Ideal ⟨2, ![4, 4]⟩ .f32

/-- The batch row the `e`-th selected entry belongs to (a row no batch has, past the hundred of them). -/
def rowOf (e : ℕ) : ℕ := if h : e < 100 then (Cert.ReferenceIdeal.lit2 ⟨e, h⟩).toNat else 15

/-- Entry `e` is one of batch row `b`'s own. -/
abbrev Live (b e : ℕ) : Prop := rowOf e = b

/-- Number `c` of the candidate that entry `e` selects in batch row `b`. -/
def cand (x : Cand) (b e c : ℕ) : EReal := x (ix3 (Fin.ofNat 8 b) (Fin.ofNat 20000 (100 + e)) (Fin.ofNat 85 c))

/-- Entry `e`'s score in batch row `b`. -/
def score (x : Cand) (b e : ℕ) : EReal := if Live b e then cand x b e 4 * cand x b e 5 else 0

/-- Coordinate `q` of entry `e`'s box in batch row `b`. -/
def box (x : Cand) (m : Conv) (b e : ℕ) (q : Fin 4) : EReal :=
  if Live b e then cand x b e 0 * m (ix2 0 q) + cand x b e 1 * m (ix2 1 q) + cand x b e 2 * m (ix2 2 q) + cand x b e 3 * m (ix2 3 q)
  else 0

/-- Entry `e`'s label in batch row `b`. -/
def lab (b e : ℕ) : BitVec 32 := if Live b e then 0#32 else 4294967295#32

/-- Batch row `b`'s hundred and one scores. -/
def scores (x : Cand) (b : ℕ) : Fin 101 → EReal := fun e => score x b e.val

/-- A drawn entry has a batch row. -/
theorem rowOf_lt {e : ℕ} (h : e < 100) : rowOf e < 8 := by
  rw [rowOf, dif_pos h]
  exact (by decide +kernel : ∀ e : Fin 100, (Cert.ReferenceIdeal.lit2 e).toNat < 8) ⟨e, h⟩

/-- The other entries have none. -/
theorem rowOf_ge {e : ℕ} (h : 100 ≤ e) : rowOf e = 15 := dif_neg (by omega)

end Cert.Proof.S
-- ==== Proof.Pack.lean ====
/- The packed rows, read number by number. -/
module

public import proofs.«01_k».proof.Proof.Host
public import proofs.«01_k».proof.Proof.Spec

@[expose] public section

noncomputable section

namespace Cert.Proof.K

open Idealize.ShloMosaic
open Cert.KernelIdeal Cert.KernelIdeal.Gen
open Cert.Proof.S (Cand Conv rowOf Live cand rowOf_lt rowOf_ge)

/-- A packed row begins with eight numbers of each of the hundred candidates … -/
theorem pack_cand (x : Cand) (m : Conv) (b : Fin 8) {e c : ℕ} (he : e < 100) (hc : c < 8) :
    packV (F := Ideal) x m (ix2 b ⟨8 * e + c, by omega⟩) = cand x b.val e c := by
  pointwise [packV]
  rw [dif_pos (by omega), cand]
  have h8 : (8 * e + c) / 8 = e := by omega
  have hm : (8 * e + c) % 8 = c := by omega
  refine congrArg x ?_
  refine congr (congr (congrArg ix3 (Fin.ext ?_)) (Fin.ext ?_)) (Fin.ext ?_)
  · exact (Nat.mod_eq_of_lt b.isLt).symm
  · show 100 + (8 * e + c) / 8 = (100 + e) % 20000
    omega
  · show (8 * e + c) % 8 = c % 85
    omega

/-- … has each number of the conversion matrix sixteen times … -/
theorem pack_conv (x : Cand) (m : Conv) (b : Fin 8) (k q : Fin 4) (l : Fin 16) :
    packV (F := Ideal) x m (ix2 b ⟨896 + 16 * (4 * k.val + q.val) + l.val, by omega⟩) = m (ix2 k q) := by
  pointwise [packV]
  rw [dif_neg (by omega), dif_neg (by omega), dif_pos (by omega)]
  refine congrArg m ?_
  refine congr (congrArg ix2 (Fin.ext ?_)) (Fin.ext ?_)
  · show (896 + 16 * (4 * k.val + q.val) + l.val - 800 - 96) / 16 / 4 = k.val
    omega
  · show (896 + 16 * (4 * k.val + q.val) + l.val - 800 - 96) / 16 % 4 = q.val
    omega

/-- … and ends with the batch row of each entry. -/
theorem pack_sel (x : Cand) (m : Conv) (b : Fin 8) (e : Fin 128) :
    packV (F := Ideal) x m (ix2 b ⟨1152 + e.val, by omega⟩) = Ideal.ofBits .f32 (lit0 e) := by
  pointwise [packV]
  rw [dif_neg (by omega), dif_neg (by omega), dif_neg (by omega)]
  refine congrArg (fun i => Ideal.ofBits .f32 (lit0 i)) (Fin.ext ?_)
  rw [show (S128.rowMajor (ix1 (n0 := 128) ⟨1152 + e.val - 800 - 96 - 256, by omega⟩)).val = 1152 + e.val - 800 - 96 - 256 from
    Shape.rowMajor_val_one _]
  omega

/-- The float of a small whole number. -/
def smallWord (n : ℕ) : BitVec 32 := match n with
  | 0 => 0x00000000#32 | 1 => 0x3F800000#32 | 2 => 0x40000000#32 | 3 => 0x40400000#32 | 4 => 0x40800000#32
  | 5 => 0x40A00000#32 | 6 => 0x40C00000#32 | 7 => 0x40E00000#32 | _ => 0x41700000#32

/-- The packed batch numbers are those of the problem. -/
theorem sel_word : ∀ e : Fin 128, lit0 e = smallWord (rowOf e.val) := by decide +kernel

/-- Rounding a small natural number to a word gives that number. -/
theorem fptosi_nat (n : ℕ) (h : n < 100) : Ideal.fptosi 32 ((n : ℝ) : EReal) = BitVec.ofNat 32 n := by
  have h0 : (0 : ℝ) ≤ (n : ℝ) := Nat.cast_nonneg n
  rw [Ideal.fptosi]
  show BitVec.ofInt 32 (max _ (min _ (if (0 : ℝ) ≤ (n : ℝ) then ⌊(n : ℝ)⌋ else ⌈(n : ℝ)⌉))) = _
  rw [if_pos h0, Int.floor_natCast, min_eq_right (by norm_num; omega), max_eq_right (by norm_num)]
  exact BitVec.ofInt_natCast 32 n

/-- A positive normal word, by its exponent and its fraction. -/
theorem normal_word (b : BitVec 32) (ex fr : ℕ) (r : ℝ) (hs : b.extractLsb' 31 1 = 0#1) (he : (b.extractLsb' 23 8).toNat = ex)
    (hf : (b.extractLsb' 0 23).toNat = fr) (h0 : ex ≠ 0) (h1 : ex ≠ 255) (hr : ((2 ^ 23 + fr : ℕ) : ℝ) * (2 : ℝ) ^ ((ex : ℤ) - 127 - 23) = r) :
    Ideal.ofBits .f32 b = (r : EReal) := by
  have hb : (2 ^ (8 - 1) - 1 : ℤ) = 127 := by norm_num
  show Ideal.ieee 8 23 b = _
  rw [Ideal.ieee]
  rw [show (8 + 23) = 31 from rfl, hs, he, hf, if_neg (by norm_num; exact h1), if_neg h0, ← hr, hb]
  simp

/-- The float words of the batch numbers are those numbers. -/
theorem word_real (n : ℕ) (h : n < 8 ∨ n = 15) : Ideal.ofBits .f32 (smallWord n) = ((n : ℝ) : EReal) := by
  have h16 : n < 16 := by omega
  interval_cases n
  · simp [smallWord]
  · exact normal_word _ 127 0 _ (by decide) (by decide) (by decide) (by decide) (by decide) (by norm_num)
  · exact normal_word _ 128 0 _ (by decide) (by decide) (by decide) (by decide) (by decide) (by norm_num)
  · exact normal_word _ 128 4194304 _ (by decide) (by decide) (by decide) (by decide) (by decide) (by norm_num)
  · exact normal_word _ 129 0 _ (by decide) (by decide) (by decide) (by decide) (by decide) (by norm_num)
  · exact normal_word _ 129 2097152 _ (by decide) (by decide) (by decide) (by decide) (by decide) (by norm_num)
  · exact normal_word _ 129 4194304 _ (by decide) (by decide) (by decide) (by decide) (by decide) (by norm_num)
  · exact normal_word _ 129 6291456 _ (by decide) (by decide) (by decide) (by decide) (by decide) (by norm_num)
  all_goals first
    | omega
    | exact normal_word _ 130 7340032 _ (by decide) (by decide) (by decide) (by decide) (by decide) (by norm_num)

/-- The filler of the last lanes is negative. -/
theorem word_neg_one : Ideal.ofBits .f32 0xBF800000#32 < 0 := by
  have h : Ideal.ofBits .f32 0xBF800000#32 = ((-1 : ℝ) : EReal) := by
    simp [Ideal.ofBits, Ideal.ieee, -EReal.coe_mul, -EReal.coe_neg]; norm_num
  rw [h]
  exact EReal.coe_neg'.mpr (by norm_num)

/-- The last hundred and twenty-eight numbers of a packed row stand for the entries' batch rows. -/
theorem sel_int (e : Fin 128) : Ideal.fptosi 32 (Ideal.ofBits .f32 (lit0 e)) = BitVec.ofNat 32 (rowOf e.val) := by
  have hr : rowOf e.val < 8 ∨ rowOf e.val = 15 := by
    by_cases h : e.val < 100
    · exact .inl (rowOf_lt h)
    · exact .inr (rowOf_ge (by omega))
  rw [sel_word, word_real _ hr, fptosi_nat _ (by omega)]

end Cert.Proof.K
-- ==== Proof.Entries.lean ====
/- One subcore's entries: what its packed row makes of each of them, on the extended reals. -/
module

public import proofs.«01_k».proof.Proof.Pack

@[expose] public section

noncomputable section

namespace Cert.Proof.K

open Idealize.ShloMosaic
open Cert.KernelIdeal Cert.KernelIdeal.Gen
open Cert.Proof.S (Cand Conv rowOf Live cand rowOf_lt rowOf_ge)

variable (x : Cand) (m : Conv) (b : Fin 8)

/-- Batch row `b`'s packed row. -/
abbrev packRow : Vec Ideal S1280 .f32 := row2 (packV (F := Ideal) x m) b.val

/-- A batch row of the packed input, read at a position. -/
theorem packRow_at {p : ℕ} (hp : p < 1280) : packRow x m b (at1 p) = packV (F := Ideal) x m (ix2 b ⟨p, hp⟩) := by
  refine congrArg (packV (F := Ideal) x m) (idx2_ext ?_ ?_)
  · exact Nat.mod_eq_of_lt b.isLt
  · show (at1 (n := 1280) p 0).val % 1280 = p
    rw [at1_val hp, Nat.mod_eq_of_lt hp]

/-- Eight words for each candidate. -/
theorem row_cand {e c : ℕ} (he : e < 100) (hc : c < 8) : packRow x m b (at1 (8 * e + c)) = cand x b.val e c := by
  rw [packRow_at x m b (by omega), pack_cand x m b he hc]

/-- The conversion matrix is spread over the lanes. -/
theorem row_conv (k q : Fin 4) (l : S16.Idx) : matV (packRow x m b) k q l = m (ix2 k q) := by
  have hl := lane_lt l
  show packRow x m b (at1 (896 + 16 * (4 * k.val + q.val) + (l 0).val)) = _
  rw [packRow_at x m b (by omega)]
  exact pack_conv x m b k q ⟨(l 0).val, hl⟩

/-- A lane is live just where its entry belongs to the batch row. -/
theorem live_lane {o : ℕ} (l : S16.Idx) (ho : o + (l 0).val < 128) :
    (laneV (bN b.val) (packRow x m b) o).live l = BitVec.ofBool (decide (Live b.val (o + (l 0).val))) := by
  have hf : packRow x m b (at1 (1152 + o + (l 0).val)) = Ideal.ofBits .f32 (lit0 ⟨o + (l 0).val, ho⟩) := by
    rw [packRow_at x m b (by omega), ← pack_sel x m b]
    exact congrArg (fun p => packV (F := Ideal) x m (ix2 b p)) (Fin.ext (Nat.add_assoc _ _ _))
  have hr : rowOf (o + (l 0).val) < 16 := by
    by_cases h : o + (l 0).val < 100
    · have := rowOf_lt h; omega
    · rw [rowOf_ge (by omega)]; omega
  show IntOp.cmpi .eq (Ideal.fptosi 32 (packRow x m b (at1 (1152 + o + (l 0).val)))) (BitVec.ofNat 32 b.val) = _
  rw [hf, sel_int]
  show BitVec.ofBool (BitVec.ofNat 32 (rowOf (o + (l 0).val)) == BitVec.ofNat 32 b.val) = _
  congr 1
  rw [Bool.eq_iff_iff, beq_iff_eq, decide_eq_true_iff, Live]
  constructor
  · intro h
    have := congrArg BitVec.toNat h
    simp only [BitVec.toNat_ofNat] at this
    omega
  · intro h; rw [h]

/-- Choosing by a decided statement. -/
theorem select_ofBool {α : Type} (p : Prop) [Decidable p] (a b : α) :
    Scalar.select (BitVec.ofBool (decide p)) a b = if p then a else b := by
  by_cases h : p <;> simp [h, Scalar.select]

/-- Only the hundred drawn entries belong to a batch row. -/
theorem live_lt {e : ℕ} (h : Live b.val e) : e < 100 := by
  by_contra hn
  have := rowOf_ge (e := e) (by omega)
  have : rowOf e = b.val := h
  omega

/-- The score each lane holds. -/
theorem score_lane {o : ℕ} (ho : o ≤ 96) (l : S16.Idx) :
    (laneV (bN b.val) (packRow x m b) o).s l
      = if o + (l 0).val ≤ 100 then S.score x b.val (o + (l 0).val) else Ideal.ofBits .f32 0xBF800000#32 := by
  have hl := lane_lt l
  show Scalar.select ((laneV (bN b.val) (packRow x m b) o).live l)
    (packRow x m b (at1 (8 * (o + (l 0).val) + 4)) * packRow x m b (at1 (8 * (o + (l 0).val) + 5)) : EReal)
    (Scalar.select (maskV o l) (Ideal.ofBits .f32 0x00000000#32) (Ideal.ofBits .f32 0xBF800000#32)) = _
  rw [live_lane x m b l (by omega), select_ofBool]
  by_cases hlv : Live b.val (o + (l 0).val)
  · have := live_lt b hlv
    rw [if_pos hlv, if_pos (by omega), S.score, if_pos hlv, row_cand x m b this (by omega), row_cand x m b this (by omega)]
  · rw [if_neg hlv]
    have hm := maskV_iff (o := o) (by omega) l
    by_cases h : o + (l 0).val ≤ 100
    · rw [if_pos h, hm.mpr h, S.score, if_neg hlv]
      simp [Scalar.select]
    · rw [if_neg h, ValueIdx.eq_zero_of_ne_one (fun e => h (hm.mp e))]
      simp [Scalar.select]

/-- The score the kernel gives an entry is the problem's. -/
theorem scoreAt_eq {e : ℕ} (h : e ≤ 100) : scoreAt (bN b.val) (packRow x m b) e = S.score x b.val e := by
  have h1 : (at1 (n := 16) (e % 16) 0).val = e % 16 := at1_val (by omega)
  rw [scoreAt, score_lane x m b (by omega), h1, if_pos (by omega), show e / 16 * 16 + e % 16 = e by omega]

/-- So is the label. -/
theorem labAt_eq {e : ℕ} (h : e ≤ 100) : labAt (bN b.val) (packRow x m b) e = S.lab b.val e := by
  have h1 : (at1 (n := 16) (e % 16) 0).val = e % 16 := at1_val (by omega)
  show Scalar.select ((laneV (bN b.val) (packRow x m b) (e / 16 * 16)).live (at1 (e % 16))) 0#32 4294967295#32 = _
  rw [live_lane x m b _ (by omega), select_ofBool, h1, show e / 16 * 16 + e % 16 = e by omega]
  rfl

/-- So is the box. -/
theorem boxAt_eq {e : ℕ} (h : e ≤ 100) (q : Fin 4) : boxAt (bN b.val) (packRow x m b) e q = S.box x m b.val e q := by
  have h1 : (at1 (n := 16) (e % 16) 0).val = e % 16 := at1_val (by omega)
  have he : e / 16 * 16 + e % 16 = e := by omega
  have hc : ∀ c, colV (packRow x m b) (e / 16 * 16) c (at1 (e % 16)) = packRow x m b (at1 (8 * e + c)) := by
    intro c
    show packRow x m b (at1 (8 * (e / 16 * 16 + (at1 (n := 16) (e % 16) 0).val) + c)) = _
    rw [h1, he]
  show Scalar.select ((laneV (bN b.val) (packRow x m b) (e / 16 * 16)).live (at1 (e % 16)))
    (colV (packRow x m b) (e / 16 * 16) 0 (at1 (e % 16)) * matV (packRow x m b) 0 q (at1 (e % 16))
      + colV (packRow x m b) (e / 16 * 16) 1 (at1 (e % 16)) * matV (packRow x m b) 1 q (at1 (e % 16))
      + colV (packRow x m b) (e / 16 * 16) 2 (at1 (e % 16)) * matV (packRow x m b) 2 q (at1 (e % 16))
      + colV (packRow x m b) (e / 16 * 16) 3 (at1 (e % 16)) * matV (packRow x m b) 3 q (at1 (e % 16)) : EReal)
    (Ideal.ofBits .f32 0x00000000#32) = _
  rw [live_lane x m b _ (by omega), select_ofBool, h1, he, hc, hc, hc, hc, row_conv, row_conv, row_conv, row_conv, S.box]
  by_cases hlv : Live b.val e
  · have := live_lt b hlv
    rw [if_pos hlv, if_pos hlv, row_cand x m b this (by omega), row_cand x m b this (by omega), row_cand x m b this (by omega),
      row_cand x m b this (by omega)]
  · rw [if_neg hlv, if_neg hlv]
    simp

end Cert.Proof.K
-- ==== Proof.Ranks.lean ====
/- The ranks a subcore counts are the places the stable sort gives. -/
module

public import proofs.«01_k».proof.Proof.Entries

@[expose] public section

noncomputable section

namespace Cert.Proof.K

open Idealize.ShloMosaic
open Cert.KernelIdeal Cert.KernelIdeal.Gen
open Cert.Proof.S (Cand Conv)

/-- A one-bit word widened counts as one where its statement holds. -/
theorem toNat_extui_ofBool (p : Prop) [Decidable p] : ((BitVec.ofBool (decide p)).setWidth 32).toNat = if p then 1 else 0 := by
  by_cases h : p <;> simp [h]

variable (x : Cand) (m : Conv) (b : Fin 8)

/-- Entry `k` comes before entry `e` in batch row `b`. -/
def Earlier (k e : ℕ) : Prop := S.score x b.val e < S.score x b.val k ∨ (S.score x b.val k = S.score x b.val e ∧ k < e)

noncomputable instance (k e : ℕ) : Decidable (Earlier x b k e) := Classical.propDecidable _

/-- One comparison of the ranking loop. -/
theorem compare_lane {o k : ℕ} (l : S16.Idx) (ho : o + (l 0).val ≤ 100) (hk : k ≤ 100) (hd : o ≤ 96) (acc : IVec S16 32) :
    rkV o (laneV (bN b.val) (packRow x m b) o).s acc (fun _ => BitVec.ofNat 32 k) (fun _ => scoreAt (bN b.val) (packRow x m b) k) l
      = acc l + (BitVec.ofBool (decide (Earlier x b k (o + (l 0).val)))).setWidth 32 := by
  have hs : ((BitVec.ofNat 32 k).slt (eV o l)) = decide (k < o + (l 0).val) := by
    have he := eV_toNat (o := o) (by omega) l
    rw [BitVec.slt, BitVec.toInt_eq_toNat_of_lt (by simp only [BitVec.toNat_ofNat]; omega), BitVec.toInt_eq_toNat_of_lt (by omega), he,
      BitVec.toNat_ofNat, Nat.mod_eq_of_lt (by omega)]
    simp only [Nat.cast_lt]
  show acc l + (IntOp.ori (Ideal.cmp .ogt (scoreAt (bN b.val) (packRow x m b) k) ((laneV (bN b.val) (packRow x m b) o).s l))
    (IntOp.andi (Ideal.cmp .oeq (scoreAt (bN b.val) (packRow x m b) k) ((laneV (bN b.val) (packRow x m b) o).s l))
      (BitVec.ofBool ((BitVec.ofNat 32 k).slt (eV o l))))).setWidth 32 = _
  rw [score_lane x m b hd, if_pos ho, scoreAt_eq x m b hk, hs, Ideal.cmp, Ideal.cmp]
  congr 2
  by_cases h1 : S.score x b.val (o + (l 0).val) < S.score x b.val k <;>
    by_cases h2 : S.score x b.val k = S.score x b.val (o + (l 0).val) <;>
    by_cases h3 : k < o + (l 0).val <;> simp [Earlier, h1, h2, h3, IntOp.ori, IntOp.andi]

/-- After `k` comparisons a lane holds how many of the first `k` entries come before its own. -/
theorem rankV_count {o : ℕ} (l : S16.Idx) (ho : o + (l 0).val ≤ 100) (hd : o ≤ 96) :
    ∀ k ≤ 101, (rankV (bN b.val) (packRow x m b) o k l).toNat = ((Finset.range k).filter fun j => Earlier x b j (o + (l 0).val)).card
  | 0, _ => rfl
  | k + 1, hk => by
    have ih := rankV_count l ho hd k (by omega)
    have hle := rankV_le (bN b.val) (packRow x m b) o l k (by omega)
    have h1 := toNat_extui_ofBool (Earlier x b k (o + (l 0).val))
    rw [rankV, compare_lane x m b l ho (by omega) hd, BitVec.toNat_add, h1, Finset.range_add_one, Finset.filter_insert]
    by_cases h : Earlier x b k (o + (l 0).val)
    · rw [if_pos h, if_pos h, Finset.card_insert_of_notMem (by simp), ← ih]
      omega
    · rw [if_neg h, if_neg h, ← ih]
      omega

/-- An entry's row in the results is how many entries come before it. -/
theorem rk_eq (e : Fin 101) : rk (bN b.val) (packRow x m b) e.val = rankOf (S.scores x b.val) e := by
  have hl : (at1 (n := 16) (e.val % 16) 0).val = e.val % 16 := at1_val (by omega)
  have he : e.val / 16 * 16 + e.val % 16 = e.val := by omega
  rw [rk, rankV_count x m b _ (by rw [hl]; omega) (by omega) 101 le_rfl, hl, he, rankOf,
    ← Finset.card_map Fin.valEmbedding]
  congr 1
  ext j
  simp only [Finset.mem_filter, Finset.mem_range, Finset.mem_map, Finset.mem_univ, true_and, Fin.valEmbedding_apply]
  constructor
  · rintro ⟨hj, h⟩
    exact ⟨⟨j, hj⟩, h, rfl⟩
  · rintro ⟨j', h, rfl⟩
    exact ⟨j'.isLt, h⟩

/-- No two entries have one row. -/
theorem rank_inj : RankInj (bN b.val) (packRow x m b) := by
  intro e e' he he' h
  have h1 := rk_eq x m b ⟨e, by omega⟩
  have h2 := rk_eq x m b ⟨e', by omega⟩
  exact congrArg Fin.val (rankOf_injective (S.scores x b.val) (h1.symm.trans (h.trans h2)))

end Cert.Proof.K
-- ==== Proof.Counts.lean ====
/- The count a subcore leaves is how many of its row's scores are positive. -/
module

public import proofs.«01_k».proof.Proof.Ranks

@[expose] public section

noncomputable section

namespace Cert.Proof.K

open Idealize.ShloMosaic
open Cert.KernelIdeal Cert.KernelIdeal.Gen
open Cert.Proof.S (Cand Conv)

/-- Adding up a list of small words. -/
theorem fold_small (w : Fin 16 → BitVec 32) (h : ∀ k, (w k).toNat ≤ 7) :
    ∀ (ks : List (Fin 16)) (r : BitVec 32), r.toNat + 7 * ks.length ≤ 1000 →
      (ks.foldl (fun r k => IntOp.addi r (w k)) r).toNat = r.toNat + (ks.map fun k => (w k).toNat).sum
  | [], r, _ => by rw [List.foldl_nil, List.map_nil, List.sum_nil, Nat.add_zero]
  | k :: ks, r, hr => by
    have hk := h k
    rw [List.length_cons] at hr
    have e : (IntOp.addi r (w k)).toNat = r.toNat + (w k).toNat := by
      rw [IntOp.addi, BitVec.toNat_add]
      omega
    rw [List.foldl_cons, fold_small w h ks _ (by rw [e]; omega), e, List.map_cons, List.sum_cons, Nat.add_assoc]

/-- The running sum's last lane is the sum of all the lanes, where none is large. -/
theorem scan_last (v : IVec S16 32) (h : ∀ l, (v l).toNat ≤ 7) (i : S16.Idx) (hi : (i 0).val = 15) :
    (scan .sum v i).toNat = ∑ l ∈ Finset.range 16, (v (at1 l)).toNat := by
  have hl : ∀ k : Fin 16, (Shape.ofLane (d := ![16]) k : S16.Idx) = at1 k.val := fun k => idx1_ext (at1_val k.isLt).symm
  have hf : ((List.finRange 16).filter fun k => decide (0 < k.val ∧ k.val ≤ 15)) = [1, 2, 3, 4, 5, 6, 7, 8, 9, 10, 11, 12, 13, 14, 15] := by
    decide
  have hr : List.finRange 16 = [0, 1, 2, 3, 4, 5, 6, 7, 8, 9, 10, 11, 12, 13, 14, 15] := by decide
  have hw : ∀ ks : List (Fin 16), ks.foldl (fun r k => IntOp.addi r (v (Shape.ofLane (d := ![16]) k))) (v (Shape.ofLane (d := ![16]) (0 : Fin 16)))
      = ks.foldl (fun r k => IntOp.addi r (v (at1 k.val))) (v (at1 0)) := fun ks => by
    have hv : (fun k : Fin 16 => v (Shape.ofLane (d := ![16]) k)) = fun k => v (at1 k.val) := funext fun k => congrArg v (hl k)
    exact congrArg (fun w : Fin 16 → BitVec 32 => ks.foldl (fun r k => IntOp.addi r (w k)) (w 0)) hv
  show (((List.finRange 16).filter fun k => decide (0 < k.val ∧ k.val ≤ (i 0).val)).foldl
    (fun r k => IntOp.addi r (v (Shape.ofLane (d := ![16]) k))) (v (Shape.ofLane (d := ![16]) (0 : Fin 16)))).toNat = _
  have h0 := h (at1 0)
  rw [hi, hf, hw]
  refine (fold_small (fun k => v (at1 k.val)) (fun k => h _) _ _ (by simp only [List.length_cons, List.length_nil]; omega)).trans ?_
  rw [Finset.sum_range, ← List.sum_ofFn, List.ofFn_eq_map, hr, List.map_cons, List.sum_cons]
  rfl

/-- The lanes' total, where no lane is large, is the sum of the lanes. -/
theorem totV_toNat (v : IVec S16 32) (h : ∀ l, (v l).toNat ≤ 7) (j : S16.Idx) :
    (totV v j).toNat = ∑ l ∈ Finset.range 16, (v (at1 l)).toNat := by
  have hz : ∀ c : BitVec 32, addi (broadcast S16 0#32) (broadcast S16 c) j = c := BitVec.zero_add
  rw [totV, hz, extractAt]
  exact scan_last v h _ rfl

/-- Seven groups of sixteen are a hundred and twelve. -/
theorem sum_groups (p : ℕ → ℕ) :
    (∑ l ∈ Finset.range 16, ∑ J ∈ Finset.range 7, p (16 * J + l)) = ∑ e ∈ Finset.range 112, p e := by
  rw [Finset.sum_comm]
  have h : ∀ n, (∑ J ∈ Finset.range n, ∑ l ∈ Finset.range 16, p (16 * J + l)) = ∑ e ∈ Finset.range (16 * n), p e := by
    intro n
    induction n with
    | zero => rw [Nat.mul_zero, Finset.sum_range_zero, Finset.sum_range_zero]
    | succ n ih => rw [Finset.sum_range_succ, ih, Nat.mul_succ, Finset.sum_range_add]
  exact h 7

/-- Counting one more lane's score. -/
theorem posV_lane (acc : IVec S16 32) (s : FVec Ideal S16 .f32) (l : S16.Idx) (h : (acc l).toNat ≤ 100) :
    (posV acc s l).toNat = (acc l).toNat + if (0 : EReal) < s l then 1 else 0 := by
  show (acc l + (Ideal.cmp .ogt (s l) (Ideal.ofBits .f32 0x00000000#32)).setWidth 32).toNat = _
  rw [Ideal.ofBits_zero_f32, BitVec.toNat_add, show Ideal.cmp .ogt (s l) 0 = BitVec.ofBool (decide ((0 : EReal) < s l)) from rfl,
    toNat_extui_ofBool]
  split <;> omega

variable (x : Cand) (m : Conv) (b : Fin 8)

/-- One where an entry's score is positive. -/
def posAt (e : ℕ) : ℕ := if e ≤ 100 ∧ 0 < S.score x b.val e then 1 else 0

/-- It is at most one. -/
theorem posAt_le (e : ℕ) : posAt x b e ≤ 1 := by unfold posAt; split <;> omega

/-- A lane's score is positive just where its entry's is. -/
theorem pos_lane {o : ℕ} (ho : o ≤ 96) (l : S16.Idx) :
    (if (0 : EReal) < (laneV (bN b.val) (packRow x m b) o).s l then 1 else 0) = posAt x b (o + (l 0).val) := by
  rw [score_lane x m b ho, posAt]
  by_cases h : o + (l 0).val ≤ 100
  · rw [if_pos h]
    simp only [h, true_and]
  · rw [if_neg h, if_neg (lt_asymm word_neg_one), if_neg (fun hh => h hh.1)]

/-- The count is how many of the hundred and one scores are positive. -/
theorem cntF_eq (j : S16.Idx) :
    (cntF (bN b.val) (packRow x m b) j).toNat = (Finset.univ.filter fun e : Fin 101 => 0 < S.scores x b.val e).card := by
  have hlane : ∀ l : S16.Idx,
      (posV (posV (posV (posV (posV (posV (posV (broadcast S16 0#32) (laneV (bN b.val) (packRow x m b) 0).s)
        (laneV (bN b.val) (packRow x m b) 16).s) (laneV (bN b.val) (packRow x m b) 32).s) (laneV (bN b.val) (packRow x m b) 48).s)
        (laneV (bN b.val) (packRow x m b) 64).s) (laneV (bN b.val) (packRow x m b) 80).s) (laneV (bN b.val) (packRow x m b) 96).s l).toNat
      = ∑ J ∈ Finset.range 7, posAt x b (16 * J + (l 0).val) := by
    intro l
    have h0 := posV_lane (broadcast S16 0#32) (laneV (bN b.val) (packRow x m b) 0).s l (Nat.zero_le _)
    rw [pos_lane x m b (by omega), show (broadcast S16 0#32 l).toNat = 0 from rfl] at h0
    have := posAt_le x b
    have p0 := posAt_le x b (0 + (l 0).val); have p1 := posAt_le x b (16 + (l 0).val); have p2 := posAt_le x b (32 + (l 0).val)
    have p3 := posAt_le x b (48 + (l 0).val); have p4 := posAt_le x b (64 + (l 0).val); have p5 := posAt_le x b (80 + (l 0).val)
    have h1 := posV_lane _ (laneV (bN b.val) (packRow x m b) 16).s l (by rw [h0]; omega)
    rw [pos_lane x m b (by omega), h0] at h1
    have h2 := posV_lane _ (laneV (bN b.val) (packRow x m b) 32).s l (by rw [h1]; omega)
    rw [pos_lane x m b (by omega), h1] at h2
    have h3 := posV_lane _ (laneV (bN b.val) (packRow x m b) 48).s l (by rw [h2]; omega)
    rw [pos_lane x m b (by omega), h2] at h3
    have h4 := posV_lane _ (laneV (bN b.val) (packRow x m b) 64).s l (by rw [h3]; omega)
    rw [pos_lane x m b (by omega), h3] at h4
    have h5 := posV_lane _ (laneV (bN b.val) (packRow x m b) 80).s l (by rw [h4]; omega)
    rw [pos_lane x m b (by omega), h4] at h5
    have h6 := posV_lane _ (laneV (bN b.val) (packRow x m b) 96).s l (by rw [h5]; omega)
    rw [pos_lane x m b (by omega), h5] at h6
    rw [h6]
    simp only [Finset.sum_range_succ, Finset.sum_range_zero]
  have hle : ∀ l : S16.Idx, (∑ J ∈ Finset.range 7, posAt x b (16 * J + (l 0).val)) ≤ 7 := fun l =>
    (Finset.sum_le_sum fun J _ => posAt_le x b (16 * J + (l 0).val)).trans (by simp)
  rw [cntF, cntV, totV_toNat _ (fun l => (hlane l).trans_le (hle l))]
  have hs : ∀ l ∈ Finset.range 16, (∑ J ∈ Finset.range 7, posAt x b (16 * J + ((at1 (n := 16) l) 0).val))
      = ∑ J ∈ Finset.range 7, posAt x b (16 * J + l) := fun l hl => by rw [at1_val (Finset.mem_range.mp hl)]
  rw [Finset.sum_congr rfl fun l _ => hlane (at1 l), Finset.sum_congr rfl hs, sum_groups, ← Finset.card_map Fin.valEmbedding,
    Finset.card_eq_sum_ones]
  unfold posAt
  rw [← Finset.sum_filter]
  refine Finset.sum_congr ?_ fun _ _ => rfl
  ext e
  simp only [Finset.mem_filter, Finset.mem_range, Finset.mem_map, Finset.mem_univ, true_and, Fin.valEmbedding_apply]
  constructor
  · rintro ⟨_, he, h⟩
    exact ⟨⟨e, by omega⟩, h, rfl⟩
  · rintro ⟨e', h, rfl⟩
    exact ⟨by omega, by omega, h⟩

end Cert.Proof.K
-- ==== Proof.RefForm.lean ====
/- The reference's composed result, cut into named stages. -/
module

public import proofs.«01_k».proof.Proof.Gen.ReferenceIdeal.Run

@[expose] public section

noncomputable section

namespace Cert.Proof.R

open Idealize.ShloMosaic Idealize.ShloMosaic.TcCoe Idealize.SL.Sem
open Cert.ReferenceIdeal Cert.ReferenceIdeal.Gen

variable {F : FTy → Type} [FloatOps F]

/-- The batch index of each selected entry. -/
def bInd : IVec S100 32 := select (constantI S100 1 0#1)
  (addi (fun i => lit0 (S100.rowMajor i)) (broadcastInDim S100 ![] bcast_S_S100 (constantI S_ 32 8#32))) (fun i => lit0 (S100.rowMajor i))
/-- The class index of each selected entry. -/
def cInd : IVec S100 32 := select (constantI S100 1 0#1)
  (addi (constantI S100 32 0#32) (broadcastInDim S100 ![] bcast_S_S100 (constantI S_ 32 80#32))) (constantI S100 32 0#32)
/-- The anchor index of each selected entry. -/
def aInd : IVec S100 32 := select (constantI S100 1 0#1)
  (addi (fun i => lit1 (S100.rowMajor i)) (broadcastInDim S100 ![] bcast_S_S100 (constantI S_ 32 20000#32))) (fun i => lit1 (S100.rowMajor i))

/-- A list of numbers as one column. -/
abbrev col (v : IVec S100 32) : IVec S100x1 32 := broadcastInDim S100x1 ![0] bcast_S100_S100x1_0 v

/-- Every class score times its confidence, classes before anchors. -/
def scores (x : Vec F S8x20000x85 .f32) : Vec F S8x80x20000 .f32 :=
  transpose S8x80x20000 [0, 2, 1] (mulf (extractStridedSlice S8x20000x80 ![0, 0, 5] x slices_S8x20000x85_S8x20000x80_0_0_5)
    (broadcastInDim S8x20000x80 ![0, 1, 2] bcast_S8x20000x1_S8x20000x80_0_1_2
      (extractStridedSlice S8x20000x1 ![0, 0, 4] x slices_S8x20000x85_S8x20000x1_0_0_4))) transposes_S8x20000x80_S8x80x20000_0_2_1

/-- Every box times the conversion matrix. -/
def boxes (x : Vec F S8x20000x85 .f32) (m : Vec F S4x4 .f32) : Vec F S8x20000x4 .f32 :=
  Host.dotGeneral dot_S8x20000x4_S4x4_S8x20000x4_2_0_01_1_n_n none
    (extractStridedSlice S8x20000x4 ![0, 0, 0] x slices_S8x20000x85_S8x20000x4_0_0_0) m

/-- The selected scores. -/
def selScore (x : Vec F S8x20000x85 .f32) : Vec F S100 .f32 :=
  Host.gather gather_S8x80x20000_S100x3_S100_n_012_n_n_012_1_111 (scores x)
    (concatenate S100x3 1 [⟨S100x1, col bInd⟩, ⟨S100x1, col cInd⟩, ⟨S100x1, col aInd⟩] concatenates_S100x1_S100x1_S100x1_S100x3_d1)

/-- The selected boxes. -/
def selBox (x : Vec F S8x20000x85 .f32) (m : Vec F S4x4 .f32) : Vec F S100x4 .f32 :=
  Host.gather gather_S8x20000x4_S100x2_S100x4_1_01_n_n_01_1_114 (boxes x m)
    (concatenate S100x2 1 [⟨S100x1, col bInd⟩, ⟨S100x1, col aInd⟩] concatenates_S100x1_S100x1_S100x2_d1)

/-- Which selected entries belong to which batch row. -/
def mine : IVec S8x100 1 :=
  cmpi .eq (broadcastInDim S8x100 ![0, 1] bcast_S8x1_S8x100_0_1 (broadcastInDim S8x1 ![0] bcast_S8_S8x1_0 (iotaInDim S8 32 0)))
    (broadcastInDim S8x100 ![0, 1] bcast_S1x100_S8x100_0_1 (broadcastInDim S1x100 ![1] bcast_S100_S1x100_1 (fun i => lit2 (S100.rowMajor i))))

/-- Every batch row's hundred detections and its row of padding. -/
def dets (x : Vec F S8x20000x85 .f32) (m : Vec F S4x4 .f32) : Vec F S8x101x5 .f32 :=
  concatenate S8x101x5 1
    [⟨S8x100x5, select (broadcastInDim S8x100x5 ![0, 1, 2] bcast_S8x100x1_S8x100x5_0_1_2 (broadcastInDim S8x100x1 ![0, 1] bcast_S8x100_S8x100x1_0_1 mine))
      (broadcastInDim S8x100x5 ![0, 1, 2] bcast_S1x100x5_S8x100x5_0_1_2 (broadcastInDim S1x100x5 ![1, 2] bcast_S100x5_S1x100x5_1_2
        (concatenate S100x5 1 [⟨S100x4, selBox x m⟩, ⟨S100x1, broadcastInDim S100x1 ![0] bcast_S100_S100x1_0 (selScore x)⟩]
          concatenates_S100x4_S100x1_S100x5_d1)))
      (broadcastInDim S8x100x5 ![] bcast_S_S8x100x5 (constant S_ .f32 0x00000000#32))⟩,
     ⟨S8x1x5, broadcastInDim S8x1x5 ![] bcast_S_S8x1x5 (constant S_ .f32 0x00000000#32)⟩] concatenates_S8x100x5_S8x1x5_S8x101x5_d1

/-- Every batch row's labels and the label of its row of padding. -/
def labels : IVec S8x101 32 :=
  concatenate S8x101 1
    [⟨S8x100, select mine (broadcastInDim S8x100 ![0, 1] bcast_S1x100_S8x100_0_1 (broadcastInDim S1x100 ![1] bcast_S100_S1x100_1 (constantI S100 32 0#32)))
      (broadcastInDim S8x100 ![] bcast_S_S8x100 (negi (constantI S_ 32 1#32)))⟩,
     ⟨S8x1, negi (broadcastInDim S8x1 ![] bcast_S_S8x1 (constantI S_ 32 1#32))⟩] concatenates_S8x100_S8x1_S8x101_d1

/-- The scores of a table of detections. -/
def lastCol (d : Vec F S8x101x5 .f32) : Vec F S8x101 .f32 :=
  shapeCast S8x101 (extractStridedSlice S8x101x1 ![0, 0, 4] d slices_S8x101x5_S8x101x1_0_0_4) shapeCasts_S8x101x1_S8x101

/-- Where each row of the sorted result comes from. -/
def order (s : Vec F S8x101 .f32) : IVec S8x101 32 :=
  (Host.sort2 S8x101 1 comparator_f32_i32_d1 (Host.negf s) (iotaInDim S8x101 32 1)).2

/-- A negative row number counted from the end. -/
def wrap {s : Shape} (h : S_.BroadcastsInDim s ![]) (i : IVec s 32) : IVec s 32 :=
  select (cmpi .slt i (broadcastInDim s ![] h (constantI S_ 32 0#32))) (addi i (broadcastInDim s ![] h (constantI S_ 32 101#32))) i

/-- Which row numbers are in range. -/
def inRange (i : IVec S8x101x1 32) : IVec S8x101 1 :=
  Host.reduce IntOp.andi
    (andi (cmpi .sge i (broadcastInDim S8x101x1 ![] bcast_S_S8x101x1 (constantI S_ 32 0#32)))
      (cmpi .sle i (broadcastInDim S8x101x1 ![0, 1, 2] bcast_S1x1x1_S8x101x1_0_1_2 (broadcastInDim S1x1x1 ![2] bcast_S1_S1x1x1_2 (constantI S1 32 100#32)))))
    (constantI S_ 1 1#1) reducesTo_S8x101x1_S8x101_d2 h_S_

/-- The detections in the order of `o`. -/
def takeDets (d : Vec F S8x101x5 .f32) (o : IVec S8x101 32) : Vec F S8x101x5 .f32 :=
  select (broadcastInDim S8x101x5 ![0, 1] bcast_S8x101_S8x101x5_0_1 (inRange (wrap bcast_S_S8x101x1 (broadcastInDim S8x101x1 ![0, 1] bcast_S8x101_S8x101x1_0_1 o))))
    (Host.gather gather_S8x101x5_S8x101x1_S8x101x5_2_1_0_0_1_2_115 d (wrap bcast_S_S8x101x1 (broadcastInDim S8x101x1 ![0, 1] bcast_S8x101_S8x101x1_0_1 o)))
    (broadcastInDim S8x101x5 ![] bcast_S_S8x101x5 (constant S_ .f32 0x7FC00000#32))

/-- The labels in the order of `o`. -/
def takeLabels (d : IVec S8x101 32) (o : IVec S8x101 32) : IVec S8x101 32 :=
  select (inRange (shapeCast S8x101x1 (wrap bcast_S_S8x101 o) shapeCasts_S8x101_S8x101x1))
    (Host.gather gather_S8x101_S8x101x1_S8x101_n_1_0_0_1_2_11 d (shapeCast S8x101x1 (wrap bcast_S_S8x101 o) shapeCasts_S8x101_S8x101x1))
    (broadcastInDim S8x101 ![] bcast_S_S8x101 (constantI S_ 32 2147483648#32))

/-- How many scores of each batch row are positive. -/
def countPos (s : Vec F S8x101 .f32) : IVec S8x1 32 :=
  broadcastInDim S8x1 ![0] bcast_S8_S8x1_0 (Host.reduce IntOp.addi
    (extui 32 (cmpf .ogt s (broadcastInDim S8x101 ![] bcast_S_S8x101 (constant S_ .f32 0x00000000#32))) natLt_1_32)
    (constantI S_ 32 0#32) reducesTo_S8x101_S8_d1 h_S_)

/-- The sorted detections. -/
def sorted (x : Vec F S8x20000x85 .f32) (m : Vec F S4x4 .f32) : Vec F S8x101x5 .f32 :=
  takeDets (dets x m) (order (lastCol (dets x m)))

section
variable (m : (ℓ : Loc nD τ sig) → Buf (Elt F) ℓ) (c : Dev nD)

/-- The reference's first argument, as launched. -/
abbrev argX : Vec F S8x20000x85 .f32 := m ((c.tc : Thread nD τ).loc main_arg0)
/-- The reference's second argument, as launched. -/
abbrev argM : Vec F S4x4 .f32 := m ((c.tc : Thread nD τ).loc main_arg1)

/-- The four results in these terms. -/
theorem res_classes : Value.res_main_v58 m c = takeLabels labels (order (lastCol (dets (argX m c) (argM m c)))) := rfl
theorem res_boxes : Value.res_main_v59 m c
    = extractStridedSlice S8x101x4 ![0, 0, 0] (sorted (argX m c) (argM m c)) slices_S8x101x5_S8x101x4_0_0_0 := rfl
theorem res_scores : Value.res_main_v61 m c = lastCol (sorted (argX m c) (argM m c)) := rfl
theorem res_count : Value.res_main_v66 m c = countPos (lastCol (sorted (argX m c) (argM m c))) := rfl

end

end Cert.Proof.R
-- ==== Proof.Gathers.lean ====
/- The reference's four gathers, read at an index. -/
module

public import proofs.«01_k».proof.Proof.RefForm
public import Idealize.ShloMosaic.Lib.Pointwise

@[expose] public section

noncomputable section

namespace Cert.Proof.R

open Idealize.ShloMosaic
open Cert.ReferenceIdeal Cert.ReferenceIdeal.Gen

/-- A start index read signed and clamped to `n`. -/
def clampTo (v : BitVec 32) (n : ℕ) : Fin (n + 1) := ⟨min v.toInt.toNat n, by omega⟩

/-- The gather of the scores reads, for each entry, at its three clamped indices. -/
theorem gather_scores {α : Type} (x : S8x80x20000.Idx → α) (idx : IVec S100x3 32) (e : Fin 100) :
    Host.gather gather_S8x80x20000_S100x3_S100_n_012_n_n_012_1_111 x idx (ix1 e)
      = x (ix3 (clampTo (idx (ix2 e 0)) 7) (clampTo (idx (ix2 e 1)) 79) (clampTo (idx (ix2 e 2)) 19999)) := by
  have hsi : ∀ k : Fin 3, gather_S8x80x20000_S100x3_S100_n_012_n_n_012_1_111.siIdx (ix1 e) k = ix2 e k := by
    intro k
    funext b
    match b with
    | ⟨0, _⟩ => rfl
    | ⟨1, _⟩ => rfl
  unfold Host.gather
  congr 1
  funext a
  refine Fin.ext ?_
  match a with
  | ⟨0, _⟩ =>
    show (clampTo (idx (gather_S8x80x20000_S100x3_S100_n_012_n_n_012_1_111.siIdx (ix1 e) (0 : Fin 3))) 7).val = _
    rw [hsi]
    rfl
  | ⟨1, _⟩ =>
    show (clampTo (idx (gather_S8x80x20000_S100x3_S100_n_012_n_n_012_1_111.siIdx (ix1 e) (1 : Fin 3))) 79).val = _
    rw [hsi]
    rfl
  | ⟨2, _⟩ =>
    show (clampTo (idx (gather_S8x80x20000_S100x3_S100_n_012_n_n_012_1_111.siIdx (ix1 e) (2 : Fin 3))) 19999).val = _
    rw [hsi]
    rfl

/-- The gather of the boxes reads a row at its two clamped indices. -/
theorem gather_boxes {α : Type} (x : S8x20000x4.Idx → α) (idx : IVec S100x2 32) (e : Fin 100) (q : Fin 4) :
    Host.gather gather_S8x20000x4_S100x2_S100x4_1_01_n_n_01_1_114 x idx (ix2 e q)
      = x (ix3 (clampTo (idx (ix2 e 0)) 7) (clampTo (idx (ix2 e 1)) 19999) q) := by
  have hsi : ∀ k : Fin 2, gather_S8x20000x4_S100x2_S100x4_1_01_n_n_01_1_114.siIdx (ix2 e q) k = ix2 e k := by
    intro k
    funext b
    match b with
    | ⟨0, _⟩ => rfl
    | ⟨1, _⟩ => rfl
  unfold Host.gather
  congr 1
  funext a
  refine Fin.ext ?_
  match a with
  | ⟨0, _⟩ =>
    show (clampTo (idx (gather_S8x20000x4_S100x2_S100x4_1_01_n_n_01_1_114.siIdx (ix2 e q) (0 : Fin 2))) 7).val = _
    rw [hsi]
    rfl
  | ⟨1, _⟩ =>
    show (clampTo (idx (gather_S8x20000x4_S100x2_S100x4_1_01_n_n_01_1_114.siIdx (ix2 e q) (1 : Fin 2))) 19999).val = _
    rw [hsi]
    rfl
  | ⟨2, _⟩ =>
    show 0 + 0 + q.val = q.val
    omega

/-- The gather along the sorted order reads a row of the detections. -/
theorem gather_dets {α : Type} (x : S8x101x5.Idx → α) (idx : IVec S8x101x1 32) (b : Fin 8) (p : Fin 101) (q : Fin 5) :
    Host.gather gather_S8x101x5_S8x101x1_S8x101x5_2_1_0_0_1_2_115 x idx (ix3 b p q)
      = x (ix3 b (clampTo (idx (ix3 b p 0)) 100) q) := by
  have hsi : gather_S8x101x5_S8x101x1_S8x101x5_2_1_0_0_1_2_115.siIdx (ix3 b p q) (0 : Fin 1) = ix3 b p 0 := by
    funext c
    match c with
    | ⟨0, _⟩ => rfl
    | ⟨1, _⟩ => rfl
    | ⟨2, _⟩ => rfl
  unfold Host.gather
  congr 1
  funext a
  refine Fin.ext ?_
  match a with
  | ⟨0, _⟩ =>
    show 0 + b.val + 0 = b.val
    omega
  | ⟨1, _⟩ =>
    show (clampTo (idx (gather_S8x101x5_S8x101x1_S8x101x5_2_1_0_0_1_2_115.siIdx (ix3 b p q) (0 : Fin 1))) 100).val = _
    rw [hsi]
    rfl
  | ⟨2, _⟩ =>
    show 0 + 0 + q.val = q.val
    omega

/-- The gather along the sorted order reads a label. -/
theorem gather_labels {α : Type} (x : S8x101.Idx → α) (idx : IVec S8x101x1 32) (b : Fin 8) (p : Fin 101) :
    Host.gather gather_S8x101_S8x101x1_S8x101_n_1_0_0_1_2_11 x idx (ix2 b p)
      = x (ix2 b (clampTo (idx (ix3 b p 0)) 100)) := by
  have hsi : gather_S8x101_S8x101x1_S8x101_n_1_0_0_1_2_11.siIdx (ix2 b p) (0 : Fin 1) = ix3 b p 0 := by
    funext c
    match c with
    | ⟨0, _⟩ => rfl
    | ⟨1, _⟩ => rfl
    | ⟨2, _⟩ => rfl
  unfold Host.gather
  congr 1
  funext a
  refine Fin.ext ?_
  match a with
  | ⟨0, _⟩ =>
    show 0 + b.val + 0 = b.val
    omega
  | ⟨1, _⟩ =>
    show (clampTo (idx (gather_S8x101_S8x101x1_S8x101_n_1_0_0_1_2_11.siIdx (ix2 b p) (0 : Fin 1))) 100).val = _
    rw [hsi]
    rfl

end Cert.Proof.R
-- ==== Proof.RefRead.lean ====
/- The reference's detections before they are sorted, read at an index. -/
module

public import proofs.«01_k».proof.Proof.Gathers
public import proofs.«01_k».proof.Proof.Spec

@[expose] public section

noncomputable section

namespace Cert.Proof.R

open Idealize.ShloMosaic
open Cert.ReferenceIdeal Cert.ReferenceIdeal.Gen
open Cert.Proof.S (Cand Conv rowOf Live cand rowOf_lt rowOf_ge)

/-- The two programs hold the same drawn batch numbers. -/
theorem table_eq : ∀ e : Fin 100, lit0 e = lit2 e := by decide +kernel
theorem anchor_eq : ∀ e : Fin 100, lit1 e = BitVec.ofNat 32 (100 + e.val) := by decide +kernel

/-- The place of an index of one axis is its coordinate. -/
theorem rowMajor1 (e : Fin 100) : S100.rowMajor (ix1 e) = e := by
  refine Fin.ext ?_
  exact Shape.rowMajor_val_one (ix1 e)

/-- The drawn batch numbers. -/
theorem bInd_apply (e : Fin 100) : bInd (ix1 e) = lit2 e := by
  pointwise [bInd]
  show lit0 (S100.rowMajor (ix1 e)) = _
  rw [rowMajor1, table_eq]

/-- The class numbers are zero. -/
theorem cInd_apply (e : Fin 100) : cInd (ix1 e) = 0#32 := by
  pointwise [cInd]

/-- The candidates' numbers go on from a hundred. -/
theorem aInd_apply (e : Fin 100) : aInd (ix1 e) = BitVec.ofNat 32 (100 + e.val) := by
  pointwise [aInd]
  show lit1 (S100.rowMajor (ix1 e)) = _
  rw [rowMajor1, anchor_eq]

/-- A drawn batch number is in range. -/
theorem clamp_row (e : Fin 100) : clampTo (lit2 e) 7 = Fin.ofNat 8 (rowOf e.val) :=
  (by decide +kernel : ∀ e : Fin 100, clampTo (lit2 e) 7 = Fin.ofNat 8 (rowOf e.val)) e

/-- A candidate's number is in range. -/
theorem clamp_anchor (e : Fin 100) : clampTo (BitVec.ofNat 32 (100 + e.val)) 19999 = Fin.ofNat 20000 (100 + e.val) :=
  (by decide +kernel : ∀ e : Fin 100, clampTo (BitVec.ofNat 32 (100 + e.val)) 19999 = Fin.ofNat 20000 (100 + e.val)) e

/-- The drawn candidates' scores. -/
theorem selScore_apply (x : Cand) (e : Fin 100) :
    selScore x (ix1 e) = cand x (rowOf e.val) e.val 4 * cand x (rowOf e.val) e.val 5 := by
  rw [selScore, gather_scores]
  pointwise [scores]
  simp only [bInd_apply, aInd_apply, cInd_apply, clamp_row, clamp_anchor]
  exact mul_comm _ _

/-- The drawn candidates' boxes. -/
theorem selBox_apply (x : Cand) (m : Conv) (e : Fin 100) (q : Fin 4) :
    selBox x m (ix2 e q) = cand x (rowOf e.val) e.val 0 * m (ix2 0 q) + cand x (rowOf e.val) e.val 1 * m (ix2 1 q)
      + cand x (rowOf e.val) e.val 2 * m (ix2 2 q) + cand x (rowOf e.val) e.val 3 * m (ix2 3 q) := by
  rw [selBox, gather_boxes]
  pointwise [boxes]
  simp only [bInd_apply, aInd_apply, clamp_row, clamp_anchor]
  rw [Fin.sum_univ_four]
  rfl

/-- The mask says which entries belong to a batch row. -/
theorem mine_apply (b : Fin 8) (e : Fin 100) : mine (ix2 b e) = BitVec.ofBool (decide (Live b.val e.val)) := by
  pointwise [mine]
  rw [rowMajor1]
  exact (by decide +kernel : ∀ (b : Fin 8) (e : Fin 100),
    IntOp.cmpi .eq (BitVec.ofNat 32 b.val) (lit2 e) = BitVec.ofBool (decide (Live b.val e.val))) b e

/-- Choosing by a decided statement. -/
theorem select_ofBool {α : Type} (p : Prop) [Decidable p] (a b : α) :
    Scalar.select (BitVec.ofBool (decide p)) a b = if p then a else b := by
  by_cases h : p <;> simp [h, Scalar.select]

/-- A batch row's scores, the row of padding included, before they are sorted. -/
theorem dets_score (x : Cand) (m : Conv) (b : Fin 8) (e : Fin 101) : dets x m (ix3 b e 4) = S.score x b.val e.val := by
  pointwise [dets]
  split
  · next h =>
    rw [mine_apply, select_ofBool, selScore_apply, S.score]
    by_cases hl : Live b.val e.val
    · rw [if_pos hl, if_pos hl]
      dsimp only
      rw [show rowOf e.val = b.val from hl]
    · rw [if_neg hl, if_neg hl]
  · next h =>
    rw [S.score, if_neg (by rw [Live, rowOf_ge (by omega)]; omega)]

/-- A batch row's boxes, likewise. -/
theorem dets_box (x : Cand) (m : Conv) (b : Fin 8) (e : Fin 101) (q : Fin 4) :
    dets x m (ix3 b e (Fin.castLE (by decide) q)) = S.box x m b.val e.val q := by
  pointwise [dets]
  split
  · next h =>
    rw [mine_apply, select_ofBool, dif_pos (show (Fin.castLE (by decide : 4 ≤ 5) q).val < 4 from q.isLt), selBox_apply, S.box]
    by_cases hl : Live b.val e.val
    · rw [if_pos hl, if_pos hl]
      dsimp only [Fin.val_castLE]
      rw [show rowOf e.val = b.val from hl]
    · rw [if_neg hl, if_neg hl]
  · next h =>
    rw [S.box, if_neg (by rw [Live, rowOf_ge (by omega)]; omega)]

/-- A batch row's labels, likewise. -/
theorem labels_apply (b : Fin 8) (e : Fin 101) : labels (ix2 b e) = S.lab b.val e.val := by
  pointwise [labels]
  split
  · next h =>
    rw [mine_apply, select_ofBool]
    rfl
  · next h =>
    rw [S.lab, if_neg (by rw [Live, rowOf_ge (by omega)]; omega)]
    rfl

/-- The last column, at an index. -/
theorem lastCol_apply (d : Vec Ideal S8x101x5 .f32) (b : Fin 8) (e : Fin 101) : lastCol d (ix2 b e) = d (ix3 b e 4) := by
  pointwise [lastCol]

end Cert.Proof.R
-- ==== Proof.RefSort.lean ====
/- The reference's results, read at an index: the detections in the order of the stable sort. -/
module

public import proofs.«01_k».proof.Proof.RefRead
public import Idealize.ShloMosaic.Lib.StableHlo.Predicate

@[expose] public section

noncomputable section

namespace Cert.Proof.R

open Idealize.ShloMosaic
open Cert.ReferenceIdeal Cert.ReferenceIdeal.Gen
open Cert.Proof.S (Cand Conv)
open Cert.Proof.K (rankOf rankOf_sorted)

/-- The reference's comparator orders by the first numbers. -/
theorem comparator_apply (l r : Ideal .f32 × BitVec 32) :
    comparator_f32_i32_d1 (F := Ideal) l r = BitVec.ofBool (decide ((l.1 : EReal) < r.1)) := by
  have key : ∀ z : EReal, Scalar.select (Ideal.cmp .une z z) (Ideal.ofBits .f32 0x7FC00000#32)
      (Scalar.select (Ideal.cmp .oeq z (Ideal.ofBits .f32 0x00000000#32)) (Ideal.ofBits .f32 0x00000000#32) z) = z := by
    intro z
    rw [Ideal.ofBits_zero_f32, show Ideal.cmp .une z z = BitVec.ofBool (decide (z ≠ z)) from rfl,
      show Ideal.cmp .oeq z 0 = BitVec.ofBool (decide (z = 0)) from rfl]
    by_cases h : z = 0 <;> simp [h, Scalar.select]
  show Ideal.cmpTotal .lt _ _ = _
  erw [key l.1, key r.1]
  rfl

/-- Where row `p` of the sorted result comes from, in a row of scores `s`. -/
def source (s : Fin 101 → EReal) (p : Fin 101) : Fin 101 := sortedFrom (fun k k' => decide (s k' < s k)) p

/-- As many entries come before it as its row's number. -/
theorem rank_source (s : Fin 101 → EReal) (p : Fin 101) : rankOf s (source s p) = p.val :=
  rankOf_sorted s _ (fun _ _ => decide_eq_true_iff) p

/-- The sort's order, at an index. -/
theorem order_apply (v : Vec Ideal S8x101 .f32) (b : Fin 8) (p : Fin 101) :
    order v (ix2 b p) = BitVec.ofNat 32 (source (fun e => v (ix2 b e)) p).val := by
  have hal : ∀ k : Fin 101, (Shape.Idx.along (s := S8x101) (ix2 b p) 1 k) = ix2 b k := by
    intro k
    funext a
    match a with
    | ⟨0, _⟩ => rfl
    | ⟨1, _⟩ => rfl
  have hR : (fun k k' : Fin 101 => comparator_f32_i32_d1 (F := Ideal)
      ((Host.negf (F := Ideal) v) (Shape.Idx.along (s := S8x101) (ix2 b p) 1 k), (iotaInDim S8x101 32 1) (Shape.Idx.along (s := S8x101) (ix2 b p) 1 k))
      ((Host.negf (F := Ideal) v) (Shape.Idx.along (s := S8x101) (ix2 b p) 1 k'), (iotaInDim S8x101 32 1) (Shape.Idx.along (s := S8x101) (ix2 b p) 1 k')) == 1#1)
      = fun k k' => decide ((v (ix2 b k') : EReal) < v (ix2 b k)) := by
    funext k k'
    rw [comparator_apply, hal, hal]
    show (BitVec.ofBool (decide (-(v (ix2 b k) : EReal) < -(v (ix2 b k') : EReal))) == 1#1) = _
    rw [Bool.eq_iff_iff, beq_iff_eq, decide_eq_true_iff, ← EReal.neg_lt_neg_iff (a := v (ix2 b k)) ]
    by_cases h : -(v (ix2 b k) : EReal) < -(v (ix2 b k') : EReal) <;> simp [h]
  show (iotaInDim S8x101 32 1) (Shape.Idx.along (s := S8x101) (ix2 b p) 1 (sortedFrom (fun k k' : Fin 101 => comparator_f32_i32_d1 (F := Ideal)
      ((Host.negf (F := Ideal) v) (Shape.Idx.along (s := S8x101) (ix2 b p) 1 k), (iotaInDim S8x101 32 1) (Shape.Idx.along (s := S8x101) (ix2 b p) 1 k))
      ((Host.negf (F := Ideal) v) (Shape.Idx.along (s := S8x101) (ix2 b p) 1 k'), (iotaInDim S8x101 32 1) (Shape.Idx.along (s := S8x101) (ix2 b p) 1 k')) == 1#1) p)) = _
  rw [hR]
  have hi : ∀ k : Fin 101, iotaInDim S8x101 32 1 (Shape.Idx.along (s := S8x101) (ix2 b p) 1 k) = BitVec.ofNat 32 k.val := fun k => by
    rw [hal]
    rfl
  exact hi (source (fun e => v (ix2 b e)) p)

/-- A small row number stays as it is. -/
theorem small_word : ∀ k : Fin 101, clampTo (BitVec.ofNat 32 k.val) 100 = k
    ∧ Scalar.select (IntOp.cmpi .slt (BitVec.ofNat 32 k.val) 0#32) (BitVec.ofNat 32 k.val + 101#32) (BitVec.ofNat 32 k.val) = BitVec.ofNat 32 k.val
    ∧ IntOp.andi (IntOp.cmpi .sge (BitVec.ofNat 32 k.val) 0#32) (IntOp.cmpi .sle (BitVec.ofNat 32 k.val) 100#32) = 1#1 := by
  decide +kernel

/-- Row numbers all in range pass the range test. -/
theorem inRange_apply (i : IVec S8x101x1 32) (b : Fin 8) (p k : Fin 101) (h : i (ix3 b p 0) = BitVec.ofNat 32 k.val) :
    inRange i (ix2 b p) = 1#1 := by
  pointwise [inRange]
  rw [show (Finset.univ : Finset (Fin 1)) = {0} from rfl, Finset.fold_singleton, h, (small_word k).2.2]
  rfl

/-- Taking the detections along an order. -/
theorem takeDets_apply (d : Vec Ideal S8x101x5 .f32) (o : IVec S8x101 32) (b : Fin 8) (p k : Fin 101) (q : Fin 5)
    (h : o (ix2 b p) = BitVec.ofNat 32 k.val) : takeDets d o (ix3 b p q) = d (ix3 b k q) := by
  have hw : wrap bcast_S_S8x101x1 (broadcastInDim S8x101x1 ![0, 1] bcast_S8x101_S8x101x1_0_1 o) (ix3 b p 0) = BitVec.ofNat 32 k.val := by
    pointwise [wrap]
    rw [h]
    exact (small_word k).2.1
  pointwise [takeDets]
  rw [inRange_apply _ b p k hw, gather_dets, hw, (small_word k).1]
  rfl

/-- Taking the labels along an order. -/
theorem takeLabels_apply (d : IVec S8x101 32) (o : IVec S8x101 32) (b : Fin 8) (p k : Fin 101)
    (h : o (ix2 b p) = BitVec.ofNat 32 k.val) : takeLabels d o (ix2 b p) = d (ix2 b k) := by
  have hw : shapeCast S8x101x1 (wrap bcast_S_S8x101 o) shapeCasts_S8x101_S8x101x1 (ix3 b p 0) = BitVec.ofNat 32 k.val := by
    pointwise [wrap]
    rw [h]
    exact (small_word k).2.1
  pointwise [takeLabels]
  rw [inRange_apply _ b p k hw, gather_labels, hw, (small_word k).1]
  rfl

variable (x : Cand) (m : Conv) (b : Fin 8)

/-- The detections' last column holds the scores. -/
theorem lastCol_dets : (fun e => lastCol (dets x m) (ix2 b e)) = S.scores x b.val := by
  funext e
  rw [lastCol_apply, dets_score]
  rfl

/-- The entry row `p` of the result comes from, in batch row `b`. -/
abbrev from_ (p : Fin 101) : Fin 101 := source (S.scores x b.val) p

/-- The order the detections are taken in. -/
theorem order_dets (p : Fin 101) : order (lastCol (dets x m)) (ix2 b p) = BitVec.ofNat 32 (from_ x b p).val := by
  rw [order_apply, lastCol_dets]

/-- The boxes of the result. -/
theorem boxes_apply (p : Fin 101) (q : Fin 4) :
    extractStridedSlice S8x101x4 ![0, 0, 0] (sorted x m) slices_S8x101x5_S8x101x4_0_0_0 (ix3 b p q) = S.box x m b.val (from_ x b p).val q := by
  pointwise
  rw [sorted, takeDets_apply _ _ b p (from_ x b p) _ (order_dets x m b p)]
  exact dets_box x m b _ q

/-- The scores of the result. -/
theorem scores_apply (p : Fin 101) : lastCol (sorted x m) (ix2 b p) = S.score x b.val (from_ x b p).val := by
  rw [lastCol_apply, sorted, takeDets_apply _ _ b p (from_ x b p) _ (order_dets x m b p), dets_score]

/-- The labels of the result. -/
theorem classes_apply (p : Fin 101) : takeLabels labels (order (lastCol (dets x m))) (ix2 b p) = S.lab b.val (from_ x b p).val := by
  rw [takeLabels_apply _ _ b p (from_ x b p) (order_dets x m b p), labels_apply]

/-- The count is of the positive scores. -/
theorem count_apply : (countPos (lastCol (sorted x m)) (ix2 b 0)).toNat = (Finset.univ.filter fun e : Fin 101 => 0 < S.scores x b.val e).card := by
  have h1 : countPos (lastCol (sorted x m)) (ix2 b 0) = Host.reduce IntOp.addi
      (extui 32 (cmpf .ogt (lastCol (sorted x m)) (broadcastInDim S8x101 ![] bcast_S_S8x101 (constant S_ .f32 0x00000000#32))) natLt_1_32)
      (constantI S_ 32 0#32) reducesTo_S8x101_S8_d1 h_S_ (ix1 b) := by
    unfold countPos
    pointwise
  rw [h1, StableHlo.Predicate.toNat_reduce_count_cols (by norm_num)]
  have hmask : ∀ p : Fin 101, cmpf (F := Ideal) .ogt (lastCol (sorted x m)) (broadcastInDim S8x101 ![] bcast_S_S8x101 (constant S_ .f32 0x00000000#32))
      (StableHlo.Predicate.ij b p) = 1#1 ↔ 0 < S.scores x b.val (from_ x b p) := by
    intro p
    have hij : (StableHlo.Predicate.ij b p : S8x101.Idx) = ix2 b p := by
      funext a
      match a with
      | ⟨0, _⟩ => rfl
      | ⟨1, _⟩ => rfl
    rw [hij]
    show Ideal.cmp .ogt (lastCol (sorted x m) (ix2 b p)) (Ideal.ofBits .f32 0x00000000#32) = 1#1 ↔ _
    rw [scores_apply, Ideal.ofBits_zero_f32]
    show BitVec.ofBool (decide ((0 : EReal) < S.score x b.val (from_ x b p).val)) = 1#1 ↔ (0 : EReal) < S.score x b.val (from_ x b p).val
    by_cases hp : (0 : EReal) < S.score x b.val (from_ x b p).val <;> simp [hp]
  have hset : (Finset.univ.filter fun p : Fin 101 => cmpf (F := Ideal) .ogt (lastCol (sorted x m))
      (broadcastInDim S8x101 ![] bcast_S_S8x101 (constant S_ .f32 0x00000000#32)) (StableHlo.Predicate.ij b p) = 1#1)
      = Finset.univ.filter fun p : Fin 101 => 0 < S.scores x b.val (from_ x b p) := Finset.filter_congr fun p _ => hmask p
  refine (congrArg Finset.card hset).trans ?_
  refine Finset.card_bij (fun p _ => from_ x b p) ?_ ?_ ?_
  · intro p hp
    exact Finset.mem_filter.mpr ⟨Finset.mem_univ _, (Finset.mem_filter.mp hp).2⟩
  · intro p _ p' _ h
    exact sortedFrom_injective _ h
  · intro e he
    obtain ⟨p, rfl⟩ := sortedFrom_surjective (fun k k' => decide (S.scores x b.val k' < S.scores x b.val k)) e
    exact ⟨p, Finset.mem_filter.mpr ⟨Finset.mem_univ _, (Finset.mem_filter.mp he).2⟩, rfl⟩

end Cert.Proof.R
-- ==== Proof.Final.lean ====
/- The kernel's four results are the reference's. -/
module

public import proofs.«01_k».proof.Defs
public import proofs.«01_k».proof.Proof.Counts
public import proofs.«01_k».proof.Proof.RefSort
public import proofs.«01_k».proof.Proof.Launch

@[expose] public section

noncomputable section

namespace Cert.Proof

open Idealize.ShloMosaic
open Cert.KernelIdeal Cert.KernelIdeal.Gen
open Cert.Proof.S (Cand Conv)

variable (x : Cand) (m : Conv)

/-- Positions of a table of three axes agree where their coordinates do. -/
theorem idx3_ext {n k l : ℕ} {i j : (⟨3, ![n, k, l]⟩ : Shape).Idx} (h0 : (i 0).val = (j 0).val) (h1 : (i 1).val = (j 1).val)
    (h2 : (i 2).val = (j 2).val) : i = j := by
  funext a
  match a with
  | ⟨0, _⟩ => exact Fin.ext h0
  | ⟨1, _⟩ => exact Fin.ext h1
  | ⟨2, _⟩ => exact Fin.ext h2

/-- The row the entry that ends in row `p` is put in is `p`. -/
theorem row_from (b : Fin 8) (p : Fin 101) : K.rk (K.bN b.val) (K.packRow x m b) (R.from_ x b p).val = p.val := by
  rw [K.rk_eq, R.from_, R.rank_source]

/-- A tile's batch row. -/
abbrev tileOf (b : Fin 8) : Fin 16 := ⟨b.val, by omega⟩

/-- The counts. -/
theorem count_eq (g : IVec S8x16 32) (hg : ∀ i : Fin 16, K.GoodN (F := Ideal) (K.packV x m) i.val g) :
    extractStridedSlice S8x1 ![0, 0] g slices_S8x16_S8x1_0_0 = R.countPos (R.lastCol (R.sorted x m)) := by
  funext j
  obtain ⟨b, z, rfl⟩ : ∃ (b : Fin 8) (z : Fin 1), j = ix2 b z := ⟨j 0, j 1, K.idx2_ext rfl rfl⟩
  obtain rfl : z = 0 := Subsingleton.elim _ _
  have h := congrFun (hg (tileOf b) b.isLt) (K.at1 0)
  have hk : extractStridedSlice S8x1 ![0, 0] g slices_S8x16_S8x1_0_0 (ix2 b 0) = K.cntF (K.bN b.val) (K.packRow x m b) (K.at1 0) := by
    refine Eq.trans ?_ h
    pointwise
    exact congrArg g (K.idx2_ext (Nat.mod_eq_of_lt b.isLt).symm rfl)
  apply BitVec.eq_of_toNat_eq
  rw [hk, K.cntF_eq]
  exact (R.count_apply x m b).symm

/-- The boxes. -/
theorem boxes_eq (g : Vec Ideal S8x128x4 .f32) (hg : ∀ i : Fin 16, K.GoodB (K.packV x m) i.val g) :
    extractStridedSlice S8x101x4 ![0, 0, 0] g slices_S8x128x4_S8x101x4_0_0_0
      = extractStridedSlice Cert.ReferenceIdeal.S8x101x4 ![0, 0, 0] (R.sorted x m) Cert.ReferenceIdeal.Gen.slices_S8x101x5_S8x101x4_0_0_0 := by
  funext j
  obtain ⟨b, p, q, rfl⟩ : ∃ (b : Fin 8) (p : Fin 101) (q : Fin 4), j = ix3 b p q := ⟨j 0, j 1, j 2, idx3_ext rfl rfl rfl⟩
  have h := hg (tileOf b) b.isLt q (K.rank_inj x m b) (R.from_ x b p).val (by omega) (by omega)
  rw [row_from] at h
  refine Eq.trans ?_ (R.boxes_apply x m b p q).symm
  refine Eq.trans ?_ (h.trans (K.boxAt_eq x m b (by omega) q))
  have hp : (K.at2 (n := 128) (m := 4) p.val q.val 0).val = p.val := Nat.mod_eq_of_lt (by omega)
  have hq : (K.at2 (n := 128) (m := 4) p.val q.val 1).val = q.val := Nat.mod_eq_of_lt q.isLt
  pointwise
  refine congrArg g (idx3_ext (Nat.mod_eq_of_lt b.isLt).symm ?_ ?_)
  · show p.val = (K.at2 (n := 128) (m := 4) p.val q.val 0).val % 128
    omega
  · show q.val = (K.at2 (n := 128) (m := 4) p.val q.val 1).val % 4
    omega

/-- A row of a result, read where its entry was put. -/
theorem row_read {α : Type} (g : S8x128.Idx → α) (b : Fin 8) (p : Fin 101) {r : ℕ} (hr : r = p.val) :
    extractStridedSlice S8x101 ![0, 0] g slices_S8x128_S8x101_0_0 (ix2 b p) = K.row2 g b.val (K.at1 r) := by
  subst hr
  have hp : (K.at1 (n := 128) p.val 0).val = p.val := K.at1_val (by omega)
  pointwise
  refine congrArg g (K.idx2_ext (Nat.mod_eq_of_lt b.isLt).symm ?_)
  show p.val = (K.at1 (n := 128) p.val 0).val % 128
  omega

/-- The scores. -/
theorem scores_eq (g : Vec Ideal S8x128 .f32) (hg : ∀ i : Fin 16, K.GoodS (K.packV x m) i.val g) :
    extractStridedSlice S8x101 ![0, 0] g slices_S8x128_S8x101_0_0 = R.lastCol (R.sorted x m) := by
  funext j
  obtain ⟨b, p, rfl⟩ : ∃ (b : Fin 8) (p : Fin 101), j = ix2 b p := ⟨j 0, j 1, K.idx2_ext rfl rfl⟩
  have h := hg (tileOf b) b.isLt (K.rank_inj x m b) (R.from_ x b p).val (by omega) (by omega)
  exact (row_read g b p (row_from x m b p)).trans ((h.trans (K.scoreAt_eq x m b (by omega))).trans (R.scores_apply x m b p).symm)

/-- The labels. -/
theorem classes_eq (g : IVec S8x128 32) (hg : ∀ i : Fin 16, K.GoodC (F := Ideal) (K.packV x m) i.val g) :
    extractStridedSlice S8x101 ![0, 0] g slices_S8x128_S8x101_0_0 = R.takeLabels R.labels (R.order (R.lastCol (R.dets x m))) := by
  funext j
  obtain ⟨b, p, rfl⟩ : ∃ (b : Fin 8) (p : Fin 101), j = ix2 b p := ⟨j 0, j 1, K.idx2_ext rfl rfl⟩
  have h := hg (tileOf b) b.isLt (K.rank_inj x m b) (R.from_ x b p).val (by omega) (by omega)
  exact (row_read g b p (row_from x m b p)).trans ((h.trans (K.labAt_eq x m b (by omega))).trans (R.classes_apply x m b p).symm)

/-- Both programs run, to equal results, at the extended reals. -/
theorem algebraic : Cert.algebraic_KernelIdeal_ReferenceIdeal := by
  intro m g m' g' _ hm
  have hX : ∀ c, R.argX (F := Ideal) m' c = m ((c.tc : Thread nD τ).loc main_arg0) := fun c => (hm c).1
  have hM : ∀ c, R.argM (F := Ideal) m' c = m ((c.tc : Thread nD τ).loc main_arg1) := fun c => (hm c).2
  refine ⟨fun c => Cert.ReferenceIdeal.Value.res_main_v66 (F := Ideal) m' c, fun c => Cert.ReferenceIdeal.Value.res_main_v59 (F := Ideal) m' c,
    fun c => Cert.ReferenceIdeal.Value.res_main_v61 (F := Ideal) m' c, fun c => Cert.ReferenceIdeal.Value.res_main_v58 (F := Ideal) m' c, ?_,
    Cert.ReferenceIdeal.Value.run (F := Ideal) m' g'⟩
  refine (θ_run (Cert.KernelIdeal.defs (F := Ideal)) _ _).mono (fun r h c => ?_) (K.run_main (F := Ideal) m g)
  obtain ⟨h0, h1, ⟨gn, hn, en⟩, ⟨gb, hb, eb⟩, ⟨gs, hs, es⟩, ⟨gc, hc, ec⟩⟩ := h.1 c
  refine ⟨?_, ?_, ?_, ?_, h0, h1⟩
  · exact en.trans ((count_eq _ _ gn hn).trans (by rw [← hX c, ← hM c]; exact (R.res_count m' c).symm))
  · exact eb.trans ((boxes_eq _ _ gb hb).trans (by rw [← hX c, ← hM c]; exact (R.res_boxes m' c).symm))
  · exact es.trans ((scores_eq _ _ gs hs).trans (by rw [← hX c, ← hM c]; exact (R.res_scores m' c).symm))
  · exact ec.trans ((classes_eq _ _ gc hc).trans (by rw [← hX c, ← hM c]; exact (R.res_classes m' c).symm))

end Cert.Proof
-- ==== Proof.lean ====
/- The proof of the claims: the frames of the three programs, what the ideal program keeps, and the results. -/
module

public import proofs.«01_k».proof.Proof.Frames
public import proofs.«01_k».proof.Proof.Final

@[expose] public section

noncomputable section

namespace Cert.Proof

/-- Everything claimed. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
